-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S128x1x4096 : Shape := ⟨3, ![128, 1, 4096]⟩
abbrev S416 : Shape := ⟨1, ![416]⟩
abbrev S264x4096x16 : Shape := ⟨3, ![264, 4096, 16]⟩
abbrev S264x16x4096 : Shape := ⟨3, ![264, 16, 4096]⟩
abbrev S_ : Shape := ⟨0, ![]⟩

class Facts : Prop where
  bcast_S_S416 : S_.BroadcastsInDim S416 (![] : Fin 0 → Fin S416.rank)
  reducesTo_S416_S_d0 : S416.ReducesTo [0] S_
  h_S_ : 0 < S_.numel

variable [Facts]

def fn {F : FTy → Type} [FloatOps F] (main_arg0 : FVec F S128x1x4096 .f32) (main_arg1 : IVec S416 32) (main_arg2 : IVec S416 32) (main_arg3 : FVec F S264x4096x16 .f32) (main_arg4 : FVec F S264x16x4096 .f32) : IVec S_ 1 :=
  let main_c : IVec S_ 32 := constantI S_ 32 0#32
  let main_v0 : IVec S416 32 := broadcastInDim S416 ![] bcast_S_S416 main_c
  let main_v1 : IVec S416 1 := cmpi .sge main_arg1 main_v0
  let main_c_0 : IVec S_ 32 := constantI S_ 32 128#32
  let main_v2 : IVec S416 32 := broadcastInDim S416 ![] bcast_S_S416 main_c_0
  let main_v3 : IVec S416 1 := cmpi .slt main_arg1 main_v2
  let main_v4 : IVec S416 1 := andi main_v1 main_v3
  let main_c_1 : IVec S_ 1 := constantI S_ 1 1#1
  let main_v5 : IVec S_ 1 := (fun x v => Host.reduce IntOp.andi x v reducesTo_S416_S_d0 h_S_) main_v4 main_c_1
  let main_c_2 : IVec S_ 32 := constantI S_ 32 0#32
  let main_v6 : IVec S416 32 := broadcastInDim S416 ![] bcast_S_S416 main_c_2
  let main_v7 : IVec S416 1 := cmpi .sge main_arg2 main_v6
  let main_c_3 : IVec S_ 32 := constantI S_ 32 264#32
  let main_v8 : IVec S416 32 := broadcastInDim S416 ![] bcast_S_S416 main_c_3
  let main_v9 : IVec S416 1 := cmpi .slt main_arg2 main_v8
  let main_v10 : IVec S416 1 := andi main_v7 main_v9
  let main_c_4 : IVec S_ 1 := constantI S_ 1 1#1
  let main_v11 : IVec S_ 1 := (fun x v => Host.reduce IntOp.andi x v reducesTo_S416_S_d0 h_S_) main_v10 main_c_4
  let main_v12 : IVec S_ 1 := andi main_v5 main_v11
  main_v12
-- ==== Kernel.lean ====
abbrev S128x1x4096 : Shape := ⟨3, ![128, 1, 4096]⟩
abbrev S416 : Shape := ⟨1, ![416]⟩
abbrev S264x4096x16 : Shape := ⟨3, ![264, 4096, 16]⟩
abbrev S264x16x4096 : Shape := ⟨3, ![264, 16, 4096]⟩
abbrev S128x4096 : Shape := ⟨2, ![128, 4096]⟩
abbrev S1x1x4096 : Shape := ⟨3, ![1, 1, 4096]⟩
abbrev S1 : Shape := ⟨1, ![1]⟩
abbrev S1x16x4096 : Shape := ⟨3, ![1, 16, 4096]⟩
abbrev S1x4096 : Shape := ⟨2, ![1, 4096]⟩
abbrev S16x4096 : Shape := ⟨2, ![16, 4096]⟩
abbrev S16 : Shape := ⟨1, ![16]⟩
abbrev S16x1 : Shape := ⟨2, ![16, 1]⟩

abbrev nBuf : Space → Nat
  | .hbm => 6
  | .vmem => 193
  | .smem => 2
  | _ => 0

abbrev vmemTy0_0 (i : Nat) : BufTy := match i % 128 with
  | 0 => ⟨S1x1x4096, .f32⟩
  | 1 => ⟨S1x1x4096, .f32⟩
  | 2 => ⟨S1x1x4096, .f32⟩
  | 3 => ⟨S1x1x4096, .f32⟩
  | 4 => ⟨S1x1x4096, .f32⟩
  | 5 => ⟨S1x1x4096, .f32⟩
  | 6 => ⟨S1x1x4096, .f32⟩
  | 7 => ⟨S1x1x4096, .f32⟩
  | 8 => ⟨S1x1x4096, .f32⟩
  | 9 => ⟨S1x1x4096, .f32⟩
  | 10 => ⟨S1x1x4096, .f32⟩
  | 11 => ⟨S1x1x4096, .f32⟩
  | 12 => ⟨S1x1x4096, .f32⟩
  | 13 => ⟨S1x1x4096, .f32⟩
  | 14 => ⟨S1x1x4096, .f32⟩
  | 15 => ⟨S1x1x4096, .f32⟩
  | 16 => ⟨S1x1x4096, .f32⟩
  | 17 => ⟨S1x1x4096, .f32⟩
  | 18 => ⟨S1x1x4096, .f32⟩
  | 19 => ⟨S1x1x4096, .f32⟩
  | 20 => ⟨S1x1x4096, .f32⟩
  | 21 => ⟨S1x1x4096, .f32⟩
  | 22 => ⟨S1x1x4096, .f32⟩
  | 23 => ⟨S1x1x4096, .f32⟩
  | 24 => ⟨S1x1x4096, .f32⟩
  | 25 => ⟨S1x1x4096, .f32⟩
  | 26 => ⟨S1x1x4096, .f32⟩
  | 27 => ⟨S1x1x4096, .f32⟩
  | 28 => ⟨S1x1x4096, .f32⟩
  | 29 => ⟨S1x1x4096, .f32⟩
  | 30 => ⟨S1x1x4096, .f32⟩
  | 31 => ⟨S1x1x4096, .f32⟩
  | 32 => ⟨S1x1x4096, .f32⟩
  | 33 => ⟨S1x1x4096, .f32⟩
  | 34 => ⟨S1x1x4096, .f32⟩
  | 35 => ⟨S1x1x4096, .f32⟩
  | 36 => ⟨S1x1x4096, .f32⟩
  | 37 => ⟨S1x1x4096, .f32⟩
  | 38 => ⟨S1x1x4096, .f32⟩
  | 39 => ⟨S1x1x4096, .f32⟩
  | 40 => ⟨S1x1x4096, .f32⟩
  | 41 => ⟨S1x1x4096, .f32⟩
  | 42 => ⟨S1x1x4096, .f32⟩
  | 43 => ⟨S1x1x4096, .f32⟩
  | 44 => ⟨S1x1x4096, .f32⟩
  | 45 => ⟨S1x1x4096, .f32⟩
  | 46 => ⟨S1x1x4096, .f32⟩
  | 47 => ⟨S1x1x4096, .f32⟩
  | 48 => ⟨S1x1x4096, .f32⟩
  | 49 => ⟨S1x1x4096, .f32⟩
  | 50 => ⟨S1x1x4096, .f32⟩
  | 51 => ⟨S1x1x4096, .f32⟩
  | 52 => ⟨S1x1x4096, .f32⟩
  | 53 => ⟨S1x1x4096, .f32⟩
  | 54 => ⟨S1x1x4096, .f32⟩
  | 55 => ⟨S1x1x4096, .f32⟩
  | 56 => ⟨S1x1x4096, .f32⟩
  | 57 => ⟨S1x1x4096, .f32⟩
  | 58 => ⟨S1x1x4096, .f32⟩
  | 59 => ⟨S1x1x4096, .f32⟩
  | 60 => ⟨S1x1x4096, .f32⟩
  | 61 => ⟨S1x1x4096, .f32⟩
  | 62 => ⟨S1x1x4096, .f32⟩
  | 63 => ⟨S1x1x4096, .f32⟩
  | 64 => ⟨S1x16x4096, .f32⟩
  | 65 => ⟨S1x16x4096, .f32⟩
  | 66 => ⟨S1x16x4096, .f32⟩
  | 67 => ⟨S1x16x4096, .f32⟩
  | 68 => ⟨S1x16x4096, .f32⟩
  | 69 => ⟨S1x16x4096, .f32⟩
  | 70 => ⟨S1x16x4096, .f32⟩
  | 71 => ⟨S1x16x4096, .f32⟩
  | 72 => ⟨S1x16x4096, .f32⟩
  | 73 => ⟨S1x16x4096, .f32⟩
  | 74 => ⟨S1x16x4096, .f32⟩
  | 75 => ⟨S1x16x4096, .f32⟩
  | 76 => ⟨S1x16x4096, .f32⟩
  | 77 => ⟨S1x16x4096, .f32⟩
  | 78 => ⟨S1x16x4096, .f32⟩
  | 79 => ⟨S1x16x4096, .f32⟩
  | 80 => ⟨S1x16x4096, .f32⟩
  | 81 => ⟨S1x16x4096, .f32⟩
  | 82 => ⟨S1x16x4096, .f32⟩
  | 83 => ⟨S1x16x4096, .f32⟩
  | 84 => ⟨S1x16x4096, .f32⟩
  | 85 => ⟨S1x16x4096, .f32⟩
  | 86 => ⟨S1x16x4096, .f32⟩
  | 87 => ⟨S1x16x4096, .f32⟩
  | 88 => ⟨S1x16x4096, .f32⟩
  | 89 => ⟨S1x16x4096, .f32⟩
  | 90 => ⟨S1x16x4096, .f32⟩
  | 91 => ⟨S1x16x4096, .f32⟩
  | 92 => ⟨S1x16x4096, .f32⟩
  | 93 => ⟨S1x16x4096, .f32⟩
  | 94 => ⟨S1x16x4096, .f32⟩
  | 95 => ⟨S1x16x4096, .f32⟩
  | 96 => ⟨S1x16x4096, .f32⟩
  | 97 => ⟨S1x16x4096, .f32⟩
  | 98 => ⟨S1x16x4096, .f32⟩
  | 99 => ⟨S1x16x4096, .f32⟩
  | 100 => ⟨S1x16x4096, .f32⟩
  | 101 => ⟨S1x16x4096, .f32⟩
  | 102 => ⟨S1x16x4096, .f32⟩
  | 103 => ⟨S1x16x4096, .f32⟩
  | 104 => ⟨S1x16x4096, .f32⟩
  | 105 => ⟨S1x16x4096, .f32⟩
  | 106 => ⟨S1x16x4096, .f32⟩
  | 107 => ⟨S1x16x4096, .f32⟩
  | 108 => ⟨S1x16x4096, .f32⟩
  | 109 => ⟨S1x16x4096, .f32⟩
  | 110 => ⟨S1x16x4096, .f32⟩
  | 111 => ⟨S1x16x4096, .f32⟩
  | 112 => ⟨S1x16x4096, .f32⟩
  | 113 => ⟨S1x16x4096, .f32⟩
  | 114 => ⟨S1x16x4096, .f32⟩
  | 115 => ⟨S1x16x4096, .f32⟩
  | 116 => ⟨S1x16x4096, .f32⟩
  | 117 => ⟨S1x16x4096, .f32⟩
  | 118 => ⟨S1x16x4096, .f32⟩
  | 119 => ⟨S1x16x4096, .f32⟩
  | 120 => ⟨S1x16x4096, .f32⟩
  | 121 => ⟨S1x16x4096, .f32⟩
  | 122 => ⟨S1x16x4096, .f32⟩
  | 123 => ⟨S1x16x4096, .f32⟩
  | 124 => ⟨S1x16x4096, .f32⟩
  | 125 => ⟨S1x16x4096, .f32⟩
  | 126 => ⟨S1x16x4096, .f32⟩
  | 127 => ⟨S1x16x4096, .f32⟩
  | _ => ⟨S128x1x4096, .f32⟩

abbrev vmemTy0_1 (i : Nat) : BufTy := match i % 128 with
  | 0 => ⟨S1x16x4096, .f32⟩
  | 1 => ⟨S1x16x4096, .f32⟩
  | 2 => ⟨S1x16x4096, .f32⟩
  | 3 => ⟨S1x16x4096, .f32⟩
  | 4 => ⟨S1x16x4096, .f32⟩
  | 5 => ⟨S1x16x4096, .f32⟩
  | 6 => ⟨S1x16x4096, .f32⟩
  | 7 => ⟨S1x16x4096, .f32⟩
  | 8 => ⟨S1x16x4096, .f32⟩
  | 9 => ⟨S1x16x4096, .f32⟩
  | 10 => ⟨S1x16x4096, .f32⟩
  | 11 => ⟨S1x16x4096, .f32⟩
  | 12 => ⟨S1x16x4096, .f32⟩
  | 13 => ⟨S1x16x4096, .f32⟩
  | 14 => ⟨S1x16x4096, .f32⟩
  | 15 => ⟨S1x16x4096, .f32⟩
  | 16 => ⟨S1x16x4096, .f32⟩
  | 17 => ⟨S1x16x4096, .f32⟩
  | 18 => ⟨S1x16x4096, .f32⟩
  | 19 => ⟨S1x16x4096, .f32⟩
  | 20 => ⟨S1x16x4096, .f32⟩
  | 21 => ⟨S1x16x4096, .f32⟩
  | 22 => ⟨S1x16x4096, .f32⟩
  | 23 => ⟨S1x16x4096, .f32⟩
  | 24 => ⟨S1x16x4096, .f32⟩
  | 25 => ⟨S1x16x4096, .f32⟩
  | 26 => ⟨S1x16x4096, .f32⟩
  | 27 => ⟨S1x16x4096, .f32⟩
  | 28 => ⟨S1x16x4096, .f32⟩
  | 29 => ⟨S1x16x4096, .f32⟩
  | 30 => ⟨S1x16x4096, .f32⟩
  | 31 => ⟨S1x16x4096, .f32⟩
  | 32 => ⟨S1x16x4096, .f32⟩
  | 33 => ⟨S1x16x4096, .f32⟩
  | 34 => ⟨S1x16x4096, .f32⟩
  | 35 => ⟨S1x16x4096, .f32⟩
  | 36 => ⟨S1x16x4096, .f32⟩
  | 37 => ⟨S1x16x4096, .f32⟩
  | 38 => ⟨S1x16x4096, .f32⟩
  | 39 => ⟨S1x16x4096, .f32⟩
  | 40 => ⟨S1x16x4096, .f32⟩
  | 41 => ⟨S1x16x4096, .f32⟩
  | 42 => ⟨S1x16x4096, .f32⟩
  | 43 => ⟨S1x16x4096, .f32⟩
  | 44 => ⟨S1x16x4096, .f32⟩
  | 45 => ⟨S1x16x4096, .f32⟩
  | 46 => ⟨S1x16x4096, .f32⟩
  | 47 => ⟨S1x16x4096, .f32⟩
  | 48 => ⟨S1x16x4096, .f32⟩
  | 49 => ⟨S1x16x4096, .f32⟩
  | 50 => ⟨S1x16x4096, .f32⟩
  | 51 => ⟨S1x16x4096, .f32⟩
  | 52 => ⟨S1x16x4096, .f32⟩
  | 53 => ⟨S1x16x4096, .f32⟩
  | 54 => ⟨S1x16x4096, .f32⟩
  | 55 => ⟨S1x16x4096, .f32⟩
  | 56 => ⟨S1x16x4096, .f32⟩
  | 57 => ⟨S1x16x4096, .f32⟩
  | 58 => ⟨S1x16x4096, .f32⟩
  | 59 => ⟨S1x16x4096, .f32⟩
  | 60 => ⟨S1x16x4096, .f32⟩
  | 61 => ⟨S1x16x4096, .f32⟩
  | 62 => ⟨S1x16x4096, .f32⟩
  | 63 => ⟨S1x16x4096, .f32⟩
  | 64 => ⟨S128x4096, .f32⟩
  | _ => ⟨S128x1x4096, .f32⟩

abbrev vmemTy (i : Nat) : BufTy := match i / 128 with
  | 0 => vmemTy0_0 i
  | 1 => vmemTy0_1 i
  | _ => ⟨S128x1x4096, .f32⟩

abbrev bufTy : (tb : Table) → Fin (tcTables nBuf tb) → BufTy
  | .hbm, ⟨0, _⟩ => ⟨S128x1x4096, .f32⟩
  | .hbm, ⟨1, _⟩ => ⟨S264x4096x16, .f32⟩
  | .hbm, ⟨2, _⟩ => ⟨S264x16x4096, .f32⟩
  | .hbm, ⟨3, _⟩ => ⟨S264x16x4096, .f32⟩
  | .hbm, ⟨4, _⟩ => ⟨S128x4096, .f32⟩
  | .hbm, ⟨5, _⟩ => ⟨S128x1x4096, .f32⟩
  | .local _ .vmem, ⟨i, _⟩ => vmemTy i
  | .local _ .smem, ⟨0, _⟩ => ⟨S416, .i32⟩
  | .local _ .smem, ⟨1, _⟩ => ⟨S416, .i32⟩
  | _, _ => ⟨S128x1x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 193 → Bool
  | ⟨i, _⟩ => dmaSemScopedAt i

abbrev sig : RefSig :=
  ofTc nBuf bufTy 0 193 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc0_stg66_0 : Ref sig .tc := ⟨.vmem, 132, rfl⟩
abbrev cc0_stg66_1 : Ref sig .tc := ⟨.vmem, 133, rfl⟩
abbrev cc0_stg67_0 : Ref sig .tc := ⟨.vmem, 134, rfl⟩
abbrev cc0_stg67_1 : Ref sig .tc := ⟨.vmem, 135, rfl⟩
abbrev cc0_stg68_0 : Ref sig .tc := ⟨.vmem, 136, rfl⟩
abbrev cc0_stg68_1 : Ref sig .tc := ⟨.vmem, 137, rfl⟩
abbrev cc0_stg69_0 : Ref sig .tc := ⟨.vmem, 138, rfl⟩
abbrev cc0_stg69_1 : Ref sig .tc := ⟨.vmem, 139, rfl⟩
abbrev cc0_stg70_0 : Ref sig .tc := ⟨.vmem, 140, rfl⟩
abbrev cc0_stg70_1 : Ref sig .tc := ⟨.vmem, 141, rfl⟩
abbrev cc0_stg71_0 : Ref sig .tc := ⟨.vmem, 142, rfl⟩
abbrev cc0_stg71_1 : Ref sig .tc := ⟨.vmem, 143, rfl⟩
abbrev cc0_stg72_0 : Ref sig .tc := ⟨.vmem, 144, rfl⟩
abbrev cc0_stg72_1 : Ref sig .tc := ⟨.vmem, 145, rfl⟩
abbrev cc0_stg73_0 : Ref sig .tc := ⟨.vmem, 146, rfl⟩
abbrev cc0_stg73_1 : Ref sig .tc := ⟨.vmem, 147, rfl⟩
abbrev cc0_stg74_0 : Ref sig .tc := ⟨.vmem, 148, rfl⟩
abbrev cc0_stg74_1 : Ref sig .tc := ⟨.vmem, 149, rfl⟩
abbrev cc0_stg75_0 : Ref sig .tc := ⟨.vmem, 150, rfl⟩
abbrev cc0_stg75_1 : Ref sig .tc := ⟨.vmem, 151, rfl⟩
abbrev cc0_stg76_0 : Ref sig .tc := ⟨.vmem, 152, rfl⟩
abbrev cc0_stg76_1 : Ref sig .tc := ⟨.vmem, 153, rfl⟩
abbrev cc0_stg77_0 : Ref sig .tc := ⟨.vmem, 154, rfl⟩
abbrev cc0_stg77_1 : Ref sig .tc := ⟨.vmem, 155, rfl⟩
abbrev cc0_stg78_0 : Ref sig .tc := ⟨.vmem, 156, rfl⟩
abbrev cc0_stg78_1 : Ref sig .tc := ⟨.vmem, 157, rfl⟩
abbrev cc0_stg79_0 : Ref sig .tc := ⟨.vmem, 158, rfl⟩
abbrev cc0_stg79_1 : Ref sig .tc := ⟨.vmem, 159, rfl⟩
abbrev cc0_stg80_0 : Ref sig .tc := ⟨.vmem, 160, rfl⟩
abbrev cc0_stg80_1 : Ref sig .tc := ⟨.vmem, 161, rfl⟩
abbrev cc0_stg81_0 : Ref sig .tc := ⟨.vmem, 162, rfl⟩
abbrev cc0_stg81_1 : Ref sig .tc := ⟨.vmem, 163, rfl⟩
abbrev cc0_stg82_0 : Ref sig .tc := ⟨.vmem, 164, rfl⟩
abbrev cc0_stg82_1 : Ref sig .tc := ⟨.vmem, 165, rfl⟩
abbrev cc0_stg83_0 : Ref sig .tc := ⟨.vmem, 166, rfl⟩
abbrev cc0_stg83_1 : Ref sig .tc := ⟨.vmem, 167, rfl⟩
abbrev cc0_stg84_0 : Ref sig .tc := ⟨.vmem, 168, rfl⟩
abbrev cc0_stg84_1 : Ref sig .tc := ⟨.vmem, 169, rfl⟩
abbrev cc0_stg85_0 : Ref sig .tc := ⟨.vmem, 170, rfl⟩
abbrev cc0_stg85_1 : Ref sig .tc := ⟨.vmem, 171, rfl⟩
abbrev cc0_stg86_0 : Ref sig .tc := ⟨.vmem, 172, rfl⟩
abbrev cc0_stg86_1 : Ref sig .tc := ⟨.vmem, 173, rfl⟩
abbrev cc0_stg87_0 : Ref sig .tc := ⟨.vmem, 174, rfl⟩
abbrev cc0_stg87_1 : Ref sig .tc := ⟨.vmem, 175, rfl⟩
abbrev cc0_stg88_0 : Ref sig .tc := ⟨.vmem, 176, rfl⟩
abbrev cc0_stg88_1 : Ref sig .tc := ⟨.vmem, 177, rfl⟩
abbrev cc0_stg89_0 : Ref sig .tc := ⟨.vmem, 178, rfl⟩
abbrev cc0_stg89_1 : Ref sig .tc := ⟨.vmem, 179, rfl⟩
abbrev cc0_stg90_0 : Ref sig .tc := ⟨.vmem, 180, rfl⟩
abbrev cc0_stg90_1 : Ref sig .tc := ⟨.vmem, 181, rfl⟩
abbrev cc0_stg91_0 : Ref sig .tc := ⟨.vmem, 182, rfl⟩
abbrev cc0_stg91_1 : Ref sig .tc := ⟨.vmem, 183, rfl⟩
abbrev cc0_stg92_0 : Ref sig .tc := ⟨.vmem, 184, rfl⟩
abbrev cc0_stg92_1 : Ref sig .tc := ⟨.vmem, 185, rfl⟩
abbrev cc0_stg93_0 : Ref sig .tc := ⟨.vmem, 186, rfl⟩
abbrev cc0_stg93_1 : Ref sig .tc := ⟨.vmem, 187, rfl⟩
abbrev cc0_stg94_0 : Ref sig .tc := ⟨.vmem, 188, rfl⟩
abbrev cc0_stg94_1 : Ref sig .tc := ⟨.vmem, 189, rfl⟩
abbrev cc0_stg95_0 : Ref sig .tc := ⟨.vmem, 190, rfl⟩
abbrev cc0_stg95_1 : Ref sig .tc := ⟨.vmem, 191, rfl⟩
abbrev cc0_stg96_0 : Ref sig .tc := ⟨.vmem, 192, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc0_sem66_0 : DmaSem sig := 132
abbrev cc0_sem66_1 : DmaSem sig := 133
abbrev cc0_sem67_0 : DmaSem sig := 134
abbrev cc0_sem67_1 : DmaSem sig := 135
abbrev cc0_sem68_0 : DmaSem sig := 136
abbrev cc0_sem68_1 : DmaSem sig := 137
abbrev cc0_sem69_0 : DmaSem sig := 138
abbrev cc0_sem69_1 : DmaSem sig := 139
abbrev cc0_sem70_0 : DmaSem sig := 140
abbrev cc0_sem70_1 : DmaSem sig := 141
abbrev cc0_sem71_0 : DmaSem sig := 142
abbrev cc0_sem71_1 : DmaSem sig := 143
abbrev cc0_sem72_0 : DmaSem sig := 144
abbrev cc0_sem72_1 : DmaSem sig := 145
abbrev cc0_sem73_0 : DmaSem sig := 146
abbrev cc0_sem73_1 : DmaSem sig := 147
abbrev cc0_sem74_0 : DmaSem sig := 148
abbrev cc0_sem74_1 : DmaSem sig := 149
abbrev cc0_sem75_0 : DmaSem sig := 150
abbrev cc0_sem75_1 : DmaSem sig := 151
abbrev cc0_sem76_0 : DmaSem sig := 152
abbrev cc0_sem76_1 : DmaSem sig := 153
abbrev cc0_sem77_0 : DmaSem sig := 154
abbrev cc0_sem77_1 : DmaSem sig := 155
abbrev cc0_sem78_0 : DmaSem sig := 156
abbrev cc0_sem78_1 : DmaSem sig := 157
abbrev cc0_sem79_0 : DmaSem sig := 158
abbrev cc0_sem79_1 : DmaSem sig := 159
abbrev cc0_sem80_0 : DmaSem sig := 160
abbrev cc0_sem80_1 : DmaSem sig := 161
abbrev cc0_sem81_0 : DmaSem sig := 162
abbrev cc0_sem81_1 : DmaSem sig := 163
abbrev cc0_sem82_0 : DmaSem sig := 164
abbrev cc0_sem82_1 : DmaSem sig := 165
abbrev cc0_sem83_0 : DmaSem sig := 166
abbrev cc0_sem83_1 : DmaSem sig := 167
abbrev cc0_sem84_0 : DmaSem sig := 168
abbrev cc0_sem84_1 : DmaSem sig := 169
abbrev cc0_sem85_0 : DmaSem sig := 170
abbrev cc0_sem85_1 : DmaSem sig := 171
abbrev cc0_sem86_0 : DmaSem sig := 172
abbrev cc0_sem86_1 : DmaSem sig := 173
abbrev cc0_sem87_0 : DmaSem sig := 174
abbrev cc0_sem87_1 : DmaSem sig := 175
abbrev cc0_sem88_0 : DmaSem sig := 176
abbrev cc0_sem88_1 : DmaSem sig := 177
abbrev cc0_sem89_0 : DmaSem sig := 178
abbrev cc0_sem89_1 : DmaSem sig := 179
abbrev cc0_sem90_0 : DmaSem sig := 180
abbrev cc0_sem90_1 : DmaSem sig := 181
abbrev cc0_sem91_0 : DmaSem sig := 182
abbrev cc0_sem91_1 : DmaSem sig := 183
abbrev cc0_sem92_0 : DmaSem sig := 184
abbrev cc0_sem92_1 : DmaSem sig := 185
abbrev cc0_sem93_0 : DmaSem sig := 186
abbrev cc0_sem93_1 : DmaSem sig := 187
abbrev cc0_sem94_0 : DmaSem sig := 188
abbrev cc0_sem94_1 : DmaSem sig := 189
abbrev cc0_sem95_0 : DmaSem sig := 190
abbrev cc0_sem95_1 : DmaSem sig := 191
abbrev cc0_sem96_0 : DmaSem sig := 192

abbrev nD : Nat := 1
abbrev τ : Topo := Topo.v7x

variable {F : FTy → Type} [FloatOps F]

abbrev grid0 : Pipeline.Grid := ⟨1, ![13], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let c32_i32 : BitVec 32 := 32#32
  let arg0 : BitVec 32 := BitVec.ofNat 32 (i 0).val
  let v0 : BitVec 32 := Scalar.muli c32_i32 arg0
  let v1 : BitVec 32 := Scalar.addi v0 c0_i32
  let v2 : Index := Scalar.indexCast v1
  ![v2.toNat]
def k0_cond1 (i : grid0.Coords) : BitVec 1 :=
  let arg0 : BitVec 32 := BitVec.ofNat 32 (i 0).val
  let c12_i32 : BitVec 32 := 12#32
  let v416 : BitVec 1 := Scalar.cmpi .slt arg0 c12_i32
  let v417 : BitVec 32 := Scalar.extui v416
  let c0_i32 : BitVec 32 := 0#32
  let v418 : BitVec 1 := Scalar.cmpi .ne v417 c0_i32
  v418

def k0_off2 (i : grid0.Coords) (c0_i32_384 : BitVec 32) : Fin 2 → Nat :=
  let c8_i32 : BitVec 32 := 8#32
  let arg0 : BitVec 32 := BitVec.ofNat 32 (i 0).val
  let v422 : BitVec 32 := Scalar.muli c8_i32 arg0
  let v426 : BitVec 32 := Scalar.addi v422 c0_i32_384
  let v427 : Index := Scalar.indexCast v426
  let c0_385 : Index := 0#32
  ![v427.toNat, 0]
def k0_cond2 (i : grid0.Coords) : BitVec 1 :=
  let arg0 : BitVec 32 := BitVec.ofNat 32 (i 0).val
  let c12_i32_382 : BitVec 32 := 12#32
  let v419 : BitVec 1 := Scalar.cmpi .sge arg0 c12_i32_382
  let v420 : BitVec 32 := Scalar.extui v419
  let c0_i32_383 : BitVec 32 := 0#32
  let v421 : BitVec 1 := Scalar.cmpi .ne v420 c0_i32_383
  v421

def k0_off3 (i : grid0.Coords) (c0_i32_385 : BitVec 32) : Fin 2 → Nat :=
  let c96_i32 : BitVec 32 := 96#32
  let arg0 : BitVec 32 := BitVec.ofNat 32 (i 0).val
  let c12_i32_384 : BitVec 32 := 12#32
  let v422 : BitVec 32 := Scalar.subi arg0 c12_i32_384
  let c32_i32 : BitVec 32 := 32#32
  let v423 : BitVec 32 := Scalar.muli v422 c32_i32
  let v424 : BitVec 32 := Scalar.addi c96_i32 v423
  let v425 : BitVec 32 := Scalar.addi v424 c0_i32_385
  let v426 : Index := Scalar.indexCast v425
  let c0_386 : Index := 0#32
  ![v426.toNat, 0]
def cc0_transform_0 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c0_i32 : BitVec 32 := 0#32
  let v1 : BitVec 32 := Scalar.addi v0 c0_i32
  let v2 : Index := Scalar.indexCast v1
  let v3 : BitVec 32 := pf.at 0 (Rect.unit (s := S416) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.addi v0 c1_i32
  let v2 : Index := Scalar.indexCast v1
  let v3 : BitVec 32 := pf.at 0 (Rect.unit (s := S416) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c2_i32 : BitVec 32 := 2#32
  let v1 : BitVec 32 := Scalar.addi v0 c2_i32
  let v2 : Index := Scalar.indexCast v1
  let v3 : BitVec 32 := pf.at 0 (Rect.unit (s := S416) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c3_i32 : BitVec 32 := 3#32
  let v1 : BitVec 32 := Scalar.addi v0 c3_i32
  let v2 : Index := Scalar.indexCast v1
  let v3 : BitVec 32 := pf.at 0 (Rect.unit (s := S416) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c4_i32 : BitVec 32 := 4#32
  let v1 : BitVec 32 := Scalar.addi v0 c4_i32
  let v2 : Index := Scalar.indexCast v1
  let v3 : BitVec 32 := pf.at 0 (Rect.unit (s := S416) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c5_i32 : BitVec 32 := 5#32
  let v1 : BitVec 32 := Scalar.addi v0 c5_i32
  let v2 : Index := Scalar.indexCast v1
  let v3 : BitVec 32 := pf.at 0 (Rect.unit (s := S416) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c6_i32 : BitVec 32 := 6#32
  let v1 : BitVec 32 := Scalar.addi v0 c6_i32
  let v2 : Index := Scalar.indexCast v1
  let v3 : BitVec 32 := pf.at 0 (Rect.unit (s := S416) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c7_i32 : BitVec 32 := 7#32
  let v1 : BitVec 32 := Scalar.addi v0 c7_i32
  let v2 : Index := Scalar.indexCast v1
  let v3 : BitVec 32 := pf.at 0 (Rect.unit (s := S416) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c8_i32 : BitVec 32 := 8#32
  let v1 : BitVec 32 := Scalar.addi v0 c8_i32
  let v2 : Index := Scalar.indexCast v1
  let v3 : BitVec 32 := pf.at 0 (Rect.unit (s := S416) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c9_i32 : BitVec 32 := 9#32
  let v1 : BitVec 32 := Scalar.addi v0 c9_i32
  let v2 : Index := Scalar.indexCast v1
  let v3 : BitVec 32 := pf.at 0 (Rect.unit (s := S416) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c10_i32 : BitVec 32 := 10#32
  let v1 : BitVec 32 := Scalar.addi v0 c10_i32
  let v2 : Index := Scalar.indexCast v1
  let v3 : BitVec 32 := pf.at 0 (Rect.unit (s := S416) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c11_i32 : BitVec 32 := 11#32
  let v1 : BitVec 32 := Scalar.addi v0 c11_i32
  let v2 : Index := Scalar.indexCast v1
  let v3 : BitVec 32 := pf.at 0 (Rect.unit (s := S416) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c12_i32 : BitVec 32 := 12#32
  let v1 : BitVec 32 := Scalar.addi v0 c12_i32
  let v2 : Index := Scalar.indexCast v1
  let v3 : BitVec 32 := pf.at 0 (Rect.unit (s := S416) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c13_i32 : BitVec 32 := 13#32
  let v1 : BitVec 32 := Scalar.addi v0 c13_i32
  let v2 : Index := Scalar.indexCast v1
  let v3 : BitVec 32 := pf.at 0 (Rect.unit (s := S416) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c14_i32 : BitVec 32 := 14#32
  let v1 : BitVec 32 := Scalar.addi v0 c14_i32
  let v2 : Index := Scalar.indexCast v1
  let v3 : BitVec 32 := pf.at 0 (Rect.unit (s := S416) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c15_i32 : BitVec 32 := 15#32
  let v1 : BitVec 32 := Scalar.addi v0 c15_i32
  let v2 : Index := Scalar.indexCast v1
  let v3 : BitVec 32 := pf.at 0 (Rect.unit (s := S416) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c16_i32 : BitVec 32 := 16#32
  let v1 : BitVec 32 := Scalar.addi v0 c16_i32
  let v2 : Index := Scalar.indexCast v1
  let v3 : BitVec 32 := pf.at 0 (Rect.unit (s := S416) ![v2.toNat] S1.size (k0_off1_inb i 16)) numel1_S1
  let c0_i32 : BitVec 32 := 0#32
  let c0_i32_0 : BitVec 32 := 0#32
  let c0_i32_1 : BitVec 32 := 0#32
  ![v3.toNat, c0_i32.toNat, c0_i32_0.toNat]

def cc0_transform_17 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c17_i32 : BitVec 32 := 17#32
  let v1 : BitVec 32 := Scalar.addi v0 c17_i32
  let v2 : Index := Scalar.indexCast v1
  let v3 : BitVec 32 := pf.at 0 (Rect.unit (s := S416) ![v2.toNat] S1.size (k0_off1_inb i 17)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c18_i32 : BitVec 32 := 18#32
  let v1 : BitVec 32 := Scalar.addi v0 c18_i32
  let v2 : Index := Scalar.indexCast v1
  let v3 : BitVec 32 := pf.at 0 (Rect.unit (s := S416) ![v2.toNat] S1.size (k0_off1_inb i 18)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c19_i32 : BitVec 32 := 19#32
  let v1 : BitVec 32 := Scalar.addi v0 c19_i32
  let v2 : Index := Scalar.indexCast v1
  let v3 : BitVec 32 := pf.at 0 (Rect.unit (s := S416) ![v2.toNat] S1.size (k0_off1_inb i 19)) numel1_S1
  let c0_i32 : BitVec 32 := 0#32
  let c0_i32_0 : BitVec 32 := 0#32
  let c0_i32_1 : BitVec 32 := 0#32
  ![v3.toNat, c0_i32.toNat, c0_i32_0.toNat]

def cc0_transform_20 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c20_i32 : BitVec 32 := 20#32
  let v1 : BitVec 32 := Scalar.addi v0 c20_i32
  let v2 : Index := Scalar.indexCast v1
  let v3 : BitVec 32 := pf.at 0 (Rect.unit (s := S416) ![v2.toNat] S1.size (k0_off1_inb i 20)) numel1_S1
  let c0_i32 : BitVec 32 := 0#32
  let c0_i32_0 : BitVec 32 := 0#32
  let c0_i32_1 : BitVec 32 := 0#32
  ![v3.toNat, c0_i32.toNat, c0_i32_0.toNat]

def cc0_transform_21 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c21_i32 : BitVec 32 := 21#32
  let v1 : BitVec 32 := Scalar.addi v0 c21_i32
  let v2 : Index := Scalar.indexCast v1
  let v3 : BitVec 32 := pf.at 0 (Rect.unit (s := S416) ![v2.toNat] S1.size (k0_off1_inb i 21)) numel1_S1
  let c0_i32 : BitVec 32 := 0#32
  let c0_i32_0 : BitVec 32 := 0#32
  let c0_i32_1 : BitVec 32 := 0#32
  ![v3.toNat, c0_i32.toNat, c0_i32_0.toNat]

def cc0_transform_22 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c22_i32 : BitVec 32 := 22#32
  let v1 : BitVec 32 := Scalar.addi v0 c22_i32
  let v2 : Index := Scalar.indexCast v1
  let v3 : BitVec 32 := pf.at 0 (Rect.unit (s := S416) ![v2.toNat] S1.size (k0_off1_inb i 22)) numel1_S1
  let c0_i32 : BitVec 32 := 0#32
  let c0_i32_0 : BitVec 32 := 0#32
  let c0_i32_1 : BitVec 32 := 0#32
  ![v3.toNat, c0_i32.toNat, c0_i32_0.toNat]

def cc0_transform_23 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c23_i32 : BitVec 32 := 23#32
  let v1 : BitVec 32 := Scalar.addi v0 c23_i32
  let v2 : Index := Scalar.indexCast v1
  let v3 : BitVec 32 := pf.at 0 (Rect.unit (s := S416) ![v2.toNat] S1.size (k0_off1_inb i 23)) numel1_S1
  let c0_i32 : BitVec 32 := 0#32
  let c0_i32_0 : BitVec 32 := 0#32
  let c0_i32_1 : BitVec 32 := 0#32
  ![v3.toNat, c0_i32.toNat, c0_i32_0.toNat]

def cc0_transform_24 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c24_i32 : BitVec 32 := 24#32
  let v1 : BitVec 32 := Scalar.addi v0 c24_i32
  let v2 : Index := Scalar.indexCast v1
  let v3 : BitVec 32 := pf.at 0 (Rect.unit (s := S416) ![v2.toNat] S1.size (k0_off1_inb i 24)) numel1_S1
  let c0_i32 : BitVec 32 := 0#32
  let c0_i32_0 : BitVec 32 := 0#32
  let c0_i32_1 : BitVec 32 := 0#32
  ![v3.toNat, c0_i32.toNat, c0_i32_0.toNat]

def cc0_transform_25 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c25_i32 : BitVec 32 := 25#32
  let v1 : BitVec 32 := Scalar.addi v0 c25_i32
  let v2 : Index := Scalar.indexCast v1
  let v3 : BitVec 32 := pf.at 0 (Rect.unit (s := S416) ![v2.toNat] S1.size (k0_off1_inb i 25)) numel1_S1
  let c0_i32 : BitVec 32 := 0#32
  let c0_i32_0 : BitVec 32 := 0#32
  let c0_i32_1 : BitVec 32 := 0#32
  ![v3.toNat, c0_i32.toNat, c0_i32_0.toNat]

def cc0_transform_26 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c26_i32 : BitVec 32 := 26#32
  let v1 : BitVec 32 := Scalar.addi v0 c26_i32
  let v2 : Index := Scalar.indexCast v1
  let v3 : BitVec 32 := pf.at 0 (Rect.unit (s := S416) ![v2.toNat] S1.size (k0_off1_inb i 26)) numel1_S1
  let c0_i32 : BitVec 32 := 0#32
  let c0_i32_0 : BitVec 32 := 0#32
  let c0_i32_1 : BitVec 32 := 0#32
  ![v3.toNat, c0_i32.toNat, c0_i32_0.toNat]

def cc0_transform_27 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c27_i32 : BitVec 32 := 27#32
  let v1 : BitVec 32 := Scalar.addi v0 c27_i32
  let v2 : Index := Scalar.indexCast v1
  let v3 : BitVec 32 := pf.at 0 (Rect.unit (s := S416) ![v2.toNat] S1.size (k0_off1_inb i 27)) numel1_S1
  let c0_i32 : BitVec 32 := 0#32
  let c0_i32_0 : BitVec 32 := 0#32
  let c0_i32_1 : BitVec 32 := 0#32
  ![v3.toNat, c0_i32.toNat, c0_i32_0.toNat]

def cc0_transform_28 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c28_i32 : BitVec 32 := 28#32
  let v1 : BitVec 32 := Scalar.addi v0 c28_i32
  let v2 : Index := Scalar.indexCast v1
  let v3 : BitVec 32 := pf.at 0 (Rect.unit (s := S416) ![v2.toNat] S1.size (k0_off1_inb i 28)) numel1_S1
  let c0_i32 : BitVec 32 := 0#32
  let c0_i32_0 : BitVec 32 := 0#32
  let c0_i32_1 : BitVec 32 := 0#32
  ![v3.toNat, c0_i32.toNat, c0_i32_0.toNat]

def cc0_transform_29 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c29_i32 : BitVec 32 := 29#32
  let v1 : BitVec 32 := Scalar.addi v0 c29_i32
  let v2 : Index := Scalar.indexCast v1
  let v3 : BitVec 32 := pf.at 0 (Rect.unit (s := S416) ![v2.toNat] S1.size (k0_off1_inb i 29)) numel1_S1
  let c0_i32 : BitVec 32 := 0#32
  let c0_i32_0 : BitVec 32 := 0#32
  let c0_i32_1 : BitVec 32 := 0#32
  ![v3.toNat, c0_i32.toNat, c0_i32_0.toNat]

def cc0_transform_30 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c30_i32 : BitVec 32 := 30#32
  let v1 : BitVec 32 := Scalar.addi v0 c30_i32
  let v2 : Index := Scalar.indexCast v1
  let v3 : BitVec 32 := pf.at 0 (Rect.unit (s := S416) ![v2.toNat] S1.size (k0_off1_inb i 30)) numel1_S1
  let c0_i32 : BitVec 32 := 0#32
  let c0_i32_0 : BitVec 32 := 0#32
  let c0_i32_1 : BitVec 32 := 0#32
  ![v3.toNat, c0_i32.toNat, c0_i32_0.toNat]

def cc0_transform_31 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c31_i32 : BitVec 32 := 31#32
  let v1 : BitVec 32 := Scalar.addi v0 c31_i32
  let v2 : Index := Scalar.indexCast v1
  let v3 : BitVec 32 := pf.at 0 (Rect.unit (s := S416) ![v2.toNat] S1.size (k0_off1_inb i 31)) numel1_S1
  let c0_i32 : BitVec 32 := 0#32
  let c0_i32_0 : BitVec 32 := 0#32
  let c0_i32_1 : BitVec 32 := 0#32
  ![v3.toNat, c0_i32.toNat, c0_i32_0.toNat]

def cc0_transform_32 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c0_i32 : BitVec 32 := 0#32
  let v1 : BitVec 32 := Scalar.addi v0 c0_i32
  let v2 : Index := Scalar.indexCast v1
  let v3 : BitVec 32 := pf.at 1 (Rect.unit (s := S416) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_33 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.addi v0 c1_i32
  let v2 : Index := Scalar.indexCast v1
  let v3 : BitVec 32 := pf.at 1 (Rect.unit (s := S416) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_34 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c2_i32 : BitVec 32 := 2#32
  let v1 : BitVec 32 := Scalar.addi v0 c2_i32
  let v2 : Index := Scalar.indexCast v1
  let v3 : BitVec 32 := pf.at 1 (Rect.unit (s := S416) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_35 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c3_i32 : BitVec 32 := 3#32
  let v1 : BitVec 32 := Scalar.addi v0 c3_i32
  let v2 : Index := Scalar.indexCast v1
  let v3 : BitVec 32 := pf.at 1 (Rect.unit (s := S416) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_36 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c4_i32 : BitVec 32 := 4#32
  let v1 : BitVec 32 := Scalar.addi v0 c4_i32
  let v2 : Index := Scalar.indexCast v1
  let v3 : BitVec 32 := pf.at 1 (Rect.unit (s := S416) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_37 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c5_i32 : BitVec 32 := 5#32
  let v1 : BitVec 32 := Scalar.addi v0 c5_i32
  let v2 : Index := Scalar.indexCast v1
  let v3 : BitVec 32 := pf.at 1 (Rect.unit (s := S416) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_38 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c6_i32 : BitVec 32 := 6#32
  let v1 : BitVec 32 := Scalar.addi v0 c6_i32
  let v2 : Index := Scalar.indexCast v1
  let v3 : BitVec 32 := pf.at 1 (Rect.unit (s := S416) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_39 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c7_i32 : BitVec 32 := 7#32
  let v1 : BitVec 32 := Scalar.addi v0 c7_i32
  let v2 : Index := Scalar.indexCast v1
  let v3 : BitVec 32 := pf.at 1 (Rect.unit (s := S416) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_40 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c8_i32 : BitVec 32 := 8#32
  let v1 : BitVec 32 := Scalar.addi v0 c8_i32
  let v2 : Index := Scalar.indexCast v1
  let v3 : BitVec 32 := pf.at 1 (Rect.unit (s := S416) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_41 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c9_i32 : BitVec 32 := 9#32
  let v1 : BitVec 32 := Scalar.addi v0 c9_i32
  let v2 : Index := Scalar.indexCast v1
  let v3 : BitVec 32 := pf.at 1 (Rect.unit (s := S416) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_42 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c10_i32 : BitVec 32 := 10#32
  let v1 : BitVec 32 := Scalar.addi v0 c10_i32
  let v2 : Index := Scalar.indexCast v1
  let v3 : BitVec 32 := pf.at 1 (Rect.unit (s := S416) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_43 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c11_i32 : BitVec 32 := 11#32
  let v1 : BitVec 32 := Scalar.addi v0 c11_i32
  let v2 : Index := Scalar.indexCast v1
  let v3 : BitVec 32 := pf.at 1 (Rect.unit (s := S416) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_44 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c12_i32 : BitVec 32 := 12#32
  let v1 : BitVec 32 := Scalar.addi v0 c12_i32
  let v2 : Index := Scalar.indexCast v1
  let v3 : BitVec 32 := pf.at 1 (Rect.unit (s := S416) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_45 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c13_i32 : BitVec 32 := 13#32
  let v1 : BitVec 32 := Scalar.addi v0 c13_i32
  let v2 : Index := Scalar.indexCast v1
  let v3 : BitVec 32 := pf.at 1 (Rect.unit (s := S416) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_46 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c14_i32 : BitVec 32 := 14#32
  let v1 : BitVec 32 := Scalar.addi v0 c14_i32
  let v2 : Index := Scalar.indexCast v1
  let v3 : BitVec 32 := pf.at 1 (Rect.unit (s := S416) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_47 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c15_i32 : BitVec 32 := 15#32
  let v1 : BitVec 32 := Scalar.addi v0 c15_i32
  let v2 : Index := Scalar.indexCast v1
  let v3 : BitVec 32 := pf.at 1 (Rect.unit (s := S416) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_48 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c16_i32 : BitVec 32 := 16#32
  let v1 : BitVec 32 := Scalar.addi v0 c16_i32
  let v2 : Index := Scalar.indexCast v1
  let v3 : BitVec 32 := pf.at 1 (Rect.unit (s := S416) ![v2.toNat] S1.size (k0_off1_inb i 16)) numel1_S1
  let c0_i32 : BitVec 32 := 0#32
  let c0_i32_0 : BitVec 32 := 0#32
  let c0_i32_1 : BitVec 32 := 0#32
  ![v3.toNat, c0_i32.toNat, c0_i32_0.toNat]

def cc0_transform_49 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c17_i32 : BitVec 32 := 17#32
  let v1 : BitVec 32 := Scalar.addi v0 c17_i32
  let v2 : Index := Scalar.indexCast v1
  let v3 : BitVec 32 := pf.at 1 (Rect.unit (s := S416) ![v2.toNat] S1.size (k0_off1_inb i 17)) numel1_S1
  let c0_i32 : BitVec 32 := 0#32
  let c0_i32_0 : BitVec 32 := 0#32
  let c0_i32_1 : BitVec 32 := 0#32
  ![v3.toNat, c0_i32.toNat, c0_i32_0.toNat]

def cc0_transform_50 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c18_i32 : BitVec 32 := 18#32
  let v1 : BitVec 32 := Scalar.addi v0 c18_i32
  let v2 : Index := Scalar.indexCast v1
  let v3 : BitVec 32 := pf.at 1 (Rect.unit (s := S416) ![v2.toNat] S1.size (k0_off1_inb i 18)) numel1_S1
  let c0_i32 : BitVec 32 := 0#32
  let c0_i32_0 : BitVec 32 := 0#32
  let c0_i32_1 : BitVec 32 := 0#32
  ![v3.toNat, c0_i32.toNat, c0_i32_0.toNat]

def cc0_transform_51 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c19_i32 : BitVec 32 := 19#32
  let v1 : BitVec 32 := Scalar.addi v0 c19_i32
  let v2 : Index := Scalar.indexCast v1
  let v3 : BitVec 32 := pf.at 1 (Rect.unit (s := S416) ![v2.toNat] S1.size (k0_off1_inb i 19)) numel1_S1
  let c0_i32 : BitVec 32 := 0#32
  let c0_i32_0 : BitVec 32 := 0#32
  let c0_i32_1 : BitVec 32 := 0#32
  ![v3.toNat, c0_i32.toNat, c0_i32_0.toNat]

def cc0_transform_52 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c20_i32 : BitVec 32 := 20#32
  let v1 : BitVec 32 := Scalar.addi v0 c20_i32
  let v2 : Index := Scalar.indexCast v1
  let v3 : BitVec 32 := pf.at 1 (Rect.unit (s := S416) ![v2.toNat] S1.size (k0_off1_inb i 20)) numel1_S1
  let c0_i32 : BitVec 32 := 0#32
  let c0_i32_0 : BitVec 32 := 0#32
  let c0_i32_1 : BitVec 32 := 0#32
  ![v3.toNat, c0_i32.toNat, c0_i32_0.toNat]

def cc0_transform_53 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c21_i32 : BitVec 32 := 21#32
  let v1 : BitVec 32 := Scalar.addi v0 c21_i32
  let v2 : Index := Scalar.indexCast v1
  let v3 : BitVec 32 := pf.at 1 (Rect.unit (s := S416) ![v2.toNat] S1.size (k0_off1_inb i 21)) numel1_S1
  let c0_i32 : BitVec 32 := 0#32
  let c0_i32_0 : BitVec 32 := 0#32
  let c0_i32_1 : BitVec 32 := 0#32
  ![v3.toNat, c0_i32.toNat, c0_i32_0.toNat]

def cc0_transform_54 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c22_i32 : BitVec 32 := 22#32
  let v1 : BitVec 32 := Scalar.addi v0 c22_i32
  let v2 : Index := Scalar.indexCast v1
  let v3 : BitVec 32 := pf.at 1 (Rect.unit (s := S416) ![v2.toNat] S1.size (k0_off1_inb i 22)) numel1_S1
  let c0_i32 : BitVec 32 := 0#32
  let c0_i32_0 : BitVec 32 := 0#32
  let c0_i32_1 : BitVec 32 := 0#32
  ![v3.toNat, c0_i32.toNat, c0_i32_0.toNat]

def cc0_transform_55 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c23_i32 : BitVec 32 := 23#32
  let v1 : BitVec 32 := Scalar.addi v0 c23_i32
  let v2 : Index := Scalar.indexCast v1
  let v3 : BitVec 32 := pf.at 1 (Rect.unit (s := S416) ![v2.toNat] S1.size (k0_off1_inb i 23)) numel1_S1
  let c0_i32 : BitVec 32 := 0#32
  let c0_i32_0 : BitVec 32 := 0#32
  let c0_i32_1 : BitVec 32 := 0#32
  ![v3.toNat, c0_i32.toNat, c0_i32_0.toNat]

def cc0_transform_56 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c24_i32 : BitVec 32 := 24#32
  let v1 : BitVec 32 := Scalar.addi v0 c24_i32
  let v2 : Index := Scalar.indexCast v1
  let v3 : BitVec 32 := pf.at 1 (Rect.unit (s := S416) ![v2.toNat] S1.size (k0_off1_inb i 24)) numel1_S1
  let c0_i32 : BitVec 32 := 0#32
  let c0_i32_0 : BitVec 32 := 0#32
  let c0_i32_1 : BitVec 32 := 0#32
  ![v3.toNat, c0_i32.toNat, c0_i32_0.toNat]

def cc0_transform_57 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c25_i32 : BitVec 32 := 25#32
  let v1 : BitVec 32 := Scalar.addi v0 c25_i32
  let v2 : Index := Scalar.indexCast v1
  let v3 : BitVec 32 := pf.at 1 (Rect.unit (s := S416) ![v2.toNat] S1.size (k0_off1_inb i 25)) numel1_S1
  let c0_i32 : BitVec 32 := 0#32
  let c0_i32_0 : BitVec 32 := 0#32
  let c0_i32_1 : BitVec 32 := 0#32
  ![v3.toNat, c0_i32.toNat, c0_i32_0.toNat]

def cc0_transform_58 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c26_i32 : BitVec 32 := 26#32
  let v1 : BitVec 32 := Scalar.addi v0 c26_i32
  let v2 : Index := Scalar.indexCast v1
  let v3 : BitVec 32 := pf.at 1 (Rect.unit (s := S416) ![v2.toNat] S1.size (k0_off1_inb i 26)) numel1_S1
  let c0_i32 : BitVec 32 := 0#32
  let c0_i32_0 : BitVec 32 := 0#32
  let c0_i32_1 : BitVec 32 := 0#32
  ![v3.toNat, c0_i32.toNat, c0_i32_0.toNat]

def cc0_transform_59 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c27_i32 : BitVec 32 := 27#32
  let v1 : BitVec 32 := Scalar.addi v0 c27_i32
  let v2 : Index := Scalar.indexCast v1
  let v3 : BitVec 32 := pf.at 1 (Rect.unit (s := S416) ![v2.toNat] S1.size (k0_off1_inb i 27)) numel1_S1
  let c0_i32 : BitVec 32 := 0#32
  let c0_i32_0 : BitVec 32 := 0#32
  let c0_i32_1 : BitVec 32 := 0#32
  ![v3.toNat, c0_i32.toNat, c0_i32_0.toNat]

def cc0_transform_60 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c28_i32 : BitVec 32 := 28#32
  let v1 : BitVec 32 := Scalar.addi v0 c28_i32
  let v2 : Index := Scalar.indexCast v1
  let v3 : BitVec 32 := pf.at 1 (Rect.unit (s := S416) ![v2.toNat] S1.size (k0_off1_inb i 28)) numel1_S1
  let c0_i32 : BitVec 32 := 0#32
  let c0_i32_0 : BitVec 32 := 0#32
  let c0_i32_1 : BitVec 32 := 0#32
  ![v3.toNat, c0_i32.toNat, c0_i32_0.toNat]

def cc0_transform_61 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c29_i32 : BitVec 32 := 29#32
  let v1 : BitVec 32 := Scalar.addi v0 c29_i32
  let v2 : Index := Scalar.indexCast v1
  let v3 : BitVec 32 := pf.at 1 (Rect.unit (s := S416) ![v2.toNat] S1.size (k0_off1_inb i 29)) numel1_S1
  let c0_i32 : BitVec 32 := 0#32
  let c0_i32_0 : BitVec 32 := 0#32
  let c0_i32_1 : BitVec 32 := 0#32
  ![v3.toNat, c0_i32.toNat, c0_i32_0.toNat]

def cc0_transform_62 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c30_i32 : BitVec 32 := 30#32
  let v1 : BitVec 32 := Scalar.addi v0 c30_i32
  let v2 : Index := Scalar.indexCast v1
  let v3 : BitVec 32 := pf.at 1 (Rect.unit (s := S416) ![v2.toNat] S1.size (k0_off1_inb i 30)) numel1_S1
  let c0_i32 : BitVec 32 := 0#32
  let c0_i32_0 : BitVec 32 := 0#32
  let c0_i32_1 : BitVec 32 := 0#32
  ![v3.toNat, c0_i32.toNat, c0_i32_0.toNat]

def cc0_transform_63 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c31_i32 : BitVec 32 := 31#32
  let v1 : BitVec 32 := Scalar.addi v0 c31_i32
  let v2 : Index := Scalar.indexCast v1
  let v3 : BitVec 32 := pf.at 1 (Rect.unit (s := S416) ![v2.toNat] S1.size (k0_off1_inb i 31)) numel1_S1
  let c0_i32 : BitVec 32 := 0#32
  let c0_i32_0 : BitVec 32 := 0#32
  let c0_i32_1 : BitVec 32 := 0#32
  ![v3.toNat, c0_i32.toNat, c0_i32_0.toNat]

def cc0_transform_64 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c0_i32 : BitVec 32 := 0#32
  let v1 : BitVec 32 := Scalar.addi v0 c0_i32
  let v2 : Index := Scalar.indexCast v1
  let v3 : BitVec 32 := pf.at 1 (Rect.unit (s := S416) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_65 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.addi v0 c1_i32
  let v2 : Index := Scalar.indexCast v1
  let v3 : BitVec 32 := pf.at 1 (Rect.unit (s := S416) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_66 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c2_i32 : BitVec 32 := 2#32
  let v1 : BitVec 32 := Scalar.addi v0 c2_i32
  let v2 : Index := Scalar.indexCast v1
  let v3 : BitVec 32 := pf.at 1 (Rect.unit (s := S416) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_67 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c3_i32 : BitVec 32 := 3#32
  let v1 : BitVec 32 := Scalar.addi v0 c3_i32
  let v2 : Index := Scalar.indexCast v1
  let v3 : BitVec 32 := pf.at 1 (Rect.unit (s := S416) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_68 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c4_i32 : BitVec 32 := 4#32
  let v1 : BitVec 32 := Scalar.addi v0 c4_i32
  let v2 : Index := Scalar.indexCast v1
  let v3 : BitVec 32 := pf.at 1 (Rect.unit (s := S416) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_69 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c5_i32 : BitVec 32 := 5#32
  let v1 : BitVec 32 := Scalar.addi v0 c5_i32
  let v2 : Index := Scalar.indexCast v1
  let v3 : BitVec 32 := pf.at 1 (Rect.unit (s := S416) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_70 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c6_i32 : BitVec 32 := 6#32
  let v1 : BitVec 32 := Scalar.addi v0 c6_i32
  let v2 : Index := Scalar.indexCast v1
  let v3 : BitVec 32 := pf.at 1 (Rect.unit (s := S416) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_71 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c7_i32 : BitVec 32 := 7#32
  let v1 : BitVec 32 := Scalar.addi v0 c7_i32
  let v2 : Index := Scalar.indexCast v1
  let v3 : BitVec 32 := pf.at 1 (Rect.unit (s := S416) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_72 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c8_i32 : BitVec 32 := 8#32
  let v1 : BitVec 32 := Scalar.addi v0 c8_i32
  let v2 : Index := Scalar.indexCast v1
  let v3 : BitVec 32 := pf.at 1 (Rect.unit (s := S416) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_73 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c9_i32 : BitVec 32 := 9#32
  let v1 : BitVec 32 := Scalar.addi v0 c9_i32
  let v2 : Index := Scalar.indexCast v1
  let v3 : BitVec 32 := pf.at 1 (Rect.unit (s := S416) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_74 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c10_i32 : BitVec 32 := 10#32
  let v1 : BitVec 32 := Scalar.addi v0 c10_i32
  let v2 : Index := Scalar.indexCast v1
  let v3 : BitVec 32 := pf.at 1 (Rect.unit (s := S416) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_75 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c11_i32 : BitVec 32 := 11#32
  let v1 : BitVec 32 := Scalar.addi v0 c11_i32
  let v2 : Index := Scalar.indexCast v1
  let v3 : BitVec 32 := pf.at 1 (Rect.unit (s := S416) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_76 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c12_i32 : BitVec 32 := 12#32
  let v1 : BitVec 32 := Scalar.addi v0 c12_i32
  let v2 : Index := Scalar.indexCast v1
  let v3 : BitVec 32 := pf.at 1 (Rect.unit (s := S416) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_77 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c13_i32 : BitVec 32 := 13#32
  let v1 : BitVec 32 := Scalar.addi v0 c13_i32
  let v2 : Index := Scalar.indexCast v1
  let v3 : BitVec 32 := pf.at 1 (Rect.unit (s := S416) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_78 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c14_i32 : BitVec 32 := 14#32
  let v1 : BitVec 32 := Scalar.addi v0 c14_i32
  let v2 : Index := Scalar.indexCast v1
  let v3 : BitVec 32 := pf.at 1 (Rect.unit (s := S416) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_79 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c15_i32 : BitVec 32 := 15#32
  let v1 : BitVec 32 := Scalar.addi v0 c15_i32
  let v2 : Index := Scalar.indexCast v1
  let v3 : BitVec 32 := pf.at 1 (Rect.unit (s := S416) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_80 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c16_i32 : BitVec 32 := 16#32
  let v1 : BitVec 32 := Scalar.addi v0 c16_i32
  let v2 : Index := Scalar.indexCast v1
  let v3 : BitVec 32 := pf.at 1 (Rect.unit (s := S416) ![v2.toNat] S1.size (k0_off1_inb i 16)) numel1_S1
  let c0_i32 : BitVec 32 := 0#32
  let c0_i32_0 : BitVec 32 := 0#32
  let c0_i32_1 : BitVec 32 := 0#32
  ![v3.toNat, c0_i32.toNat, c0_i32_0.toNat]

def cc0_transform_81 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c17_i32 : BitVec 32 := 17#32
  let v1 : BitVec 32 := Scalar.addi v0 c17_i32
  let v2 : Index := Scalar.indexCast v1
  let v3 : BitVec 32 := pf.at 1 (Rect.unit (s := S416) ![v2.toNat] S1.size (k0_off1_inb i 17)) numel1_S1
  let c0_i32 : BitVec 32 := 0#32
  let c0_i32_0 : BitVec 32 := 0#32
  let c0_i32_1 : BitVec 32 := 0#32
  ![v3.toNat, c0_i32.toNat, c0_i32_0.toNat]

def cc0_transform_82 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c18_i32 : BitVec 32 := 18#32
  let v1 : BitVec 32 := Scalar.addi v0 c18_i32
  let v2 : Index := Scalar.indexCast v1
  let v3 : BitVec 32 := pf.at 1 (Rect.unit (s := S416) ![v2.toNat] S1.size (k0_off1_inb i 18)) numel1_S1
  let c0_i32 : BitVec 32 := 0#32
  let c0_i32_0 : BitVec 32 := 0#32
  let c0_i32_1 : BitVec 32 := 0#32
  ![v3.toNat, c0_i32.toNat, c0_i32_0.toNat]

def cc0_transform_83 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c19_i32 : BitVec 32 := 19#32
  let v1 : BitVec 32 := Scalar.addi v0 c19_i32
  let v2 : Index := Scalar.indexCast v1
  let v3 : BitVec 32 := pf.at 1 (Rect.unit (s := S416) ![v2.toNat] S1.size (k0_off1_inb i 19)) numel1_S1
  let c0_i32 : BitVec 32 := 0#32
  let c0_i32_0 : BitVec 32 := 0#32
  let c0_i32_1 : BitVec 32 := 0#32
  ![v3.toNat, c0_i32.toNat, c0_i32_0.toNat]

def cc0_transform_84 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c20_i32 : BitVec 32 := 20#32
  let v1 : BitVec 32 := Scalar.addi v0 c20_i32
  let v2 : Index := Scalar.indexCast v1
  let v3 : BitVec 32 := pf.at 1 (Rect.unit (s := S416) ![v2.toNat] S1.size (k0_off1_inb i 20)) numel1_S1
  let c0_i32 : BitVec 32 := 0#32
  let c0_i32_0 : BitVec 32 := 0#32
  let c0_i32_1 : BitVec 32 := 0#32
  ![v3.toNat, c0_i32.toNat, c0_i32_0.toNat]

def cc0_transform_85 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c21_i32 : BitVec 32 := 21#32
  let v1 : BitVec 32 := Scalar.addi v0 c21_i32
  let v2 : Index := Scalar.indexCast v1
  let v3 : BitVec 32 := pf.at 1 (Rect.unit (s := S416) ![v2.toNat] S1.size (k0_off1_inb i 21)) numel1_S1
  let c0_i32 : BitVec 32 := 0#32
  let c0_i32_0 : BitVec 32 := 0#32
  let c0_i32_1 : BitVec 32 := 0#32
  ![v3.toNat, c0_i32.toNat, c0_i32_0.toNat]

def cc0_transform_86 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c22_i32 : BitVec 32 := 22#32
  let v1 : BitVec 32 := Scalar.addi v0 c22_i32
  let v2 : Index := Scalar.indexCast v1
  let v3 : BitVec 32 := pf.at 1 (Rect.unit (s := S416) ![v2.toNat] S1.size (k0_off1_inb i 22)) numel1_S1
  let c0_i32 : BitVec 32 := 0#32
  let c0_i32_0 : BitVec 32 := 0#32
  let c0_i32_1 : BitVec 32 := 0#32
  ![v3.toNat, c0_i32.toNat, c0_i32_0.toNat]

def cc0_transform_87 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c23_i32 : BitVec 32 := 23#32
  let v1 : BitVec 32 := Scalar.addi v0 c23_i32
  let v2 : Index := Scalar.indexCast v1
  let v3 : BitVec 32 := pf.at 1 (Rect.unit (s := S416) ![v2.toNat] S1.size (k0_off1_inb i 23)) numel1_S1
  let c0_i32 : BitVec 32 := 0#32
  let c0_i32_0 : BitVec 32 := 0#32
  let c0_i32_1 : BitVec 32 := 0#32
  ![v3.toNat, c0_i32.toNat, c0_i32_0.toNat]

def cc0_transform_88 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c24_i32 : BitVec 32 := 24#32
  let v1 : BitVec 32 := Scalar.addi v0 c24_i32
  let v2 : Index := Scalar.indexCast v1
  let v3 : BitVec 32 := pf.at 1 (Rect.unit (s := S416) ![v2.toNat] S1.size (k0_off1_inb i 24)) numel1_S1
  let c0_i32 : BitVec 32 := 0#32
  let c0_i32_0 : BitVec 32 := 0#32
  let c0_i32_1 : BitVec 32 := 0#32
  ![v3.toNat, c0_i32.toNat, c0_i32_0.toNat]

def cc0_transform_89 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c25_i32 : BitVec 32 := 25#32
  let v1 : BitVec 32 := Scalar.addi v0 c25_i32
  let v2 : Index := Scalar.indexCast v1
  let v3 : BitVec 32 := pf.at 1 (Rect.unit (s := S416) ![v2.toNat] S1.size (k0_off1_inb i 25)) numel1_S1
  let c0_i32 : BitVec 32 := 0#32
  let c0_i32_0 : BitVec 32 := 0#32
  let c0_i32_1 : BitVec 32 := 0#32
  ![v3.toNat, c0_i32.toNat, c0_i32_0.toNat]

def cc0_transform_90 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c26_i32 : BitVec 32 := 26#32
  let v1 : BitVec 32 := Scalar.addi v0 c26_i32
  let v2 : Index := Scalar.indexCast v1
  let v3 : BitVec 32 := pf.at 1 (Rect.unit (s := S416) ![v2.toNat] S1.size (k0_off1_inb i 26)) numel1_S1
  let c0_i32 : BitVec 32 := 0#32
  let c0_i32_0 : BitVec 32 := 0#32
  let c0_i32_1 : BitVec 32 := 0#32
  ![v3.toNat, c0_i32.toNat, c0_i32_0.toNat]

def cc0_transform_91 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c27_i32 : BitVec 32 := 27#32
  let v1 : BitVec 32 := Scalar.addi v0 c27_i32
  let v2 : Index := Scalar.indexCast v1
  let v3 : BitVec 32 := pf.at 1 (Rect.unit (s := S416) ![v2.toNat] S1.size (k0_off1_inb i 27)) numel1_S1
  let c0_i32 : BitVec 32 := 0#32
  let c0_i32_0 : BitVec 32 := 0#32
  let c0_i32_1 : BitVec 32 := 0#32
  ![v3.toNat, c0_i32.toNat, c0_i32_0.toNat]

def cc0_transform_92 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c28_i32 : BitVec 32 := 28#32
  let v1 : BitVec 32 := Scalar.addi v0 c28_i32
  let v2 : Index := Scalar.indexCast v1
  let v3 : BitVec 32 := pf.at 1 (Rect.unit (s := S416) ![v2.toNat] S1.size (k0_off1_inb i 28)) numel1_S1
  let c0_i32 : BitVec 32 := 0#32
  let c0_i32_0 : BitVec 32 := 0#32
  let c0_i32_1 : BitVec 32 := 0#32
  ![v3.toNat, c0_i32.toNat, c0_i32_0.toNat]

def cc0_transform_93 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c29_i32 : BitVec 32 := 29#32
  let v1 : BitVec 32 := Scalar.addi v0 c29_i32
  let v2 : Index := Scalar.indexCast v1
  let v3 : BitVec 32 := pf.at 1 (Rect.unit (s := S416) ![v2.toNat] S1.size (k0_off1_inb i 29)) numel1_S1
  let c0_i32 : BitVec 32 := 0#32
  let c0_i32_0 : BitVec 32 := 0#32
  let c0_i32_1 : BitVec 32 := 0#32
  ![v3.toNat, c0_i32.toNat, c0_i32_0.toNat]

def cc0_transform_94 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c30_i32 : BitVec 32 := 30#32
  let v1 : BitVec 32 := Scalar.addi v0 c30_i32
  let v2 : Index := Scalar.indexCast v1
  let v3 : BitVec 32 := pf.at 1 (Rect.unit (s := S416) ![v2.toNat] S1.size (k0_off1_inb i 30)) numel1_S1
  let c0_i32 : BitVec 32 := 0#32
  let c0_i32_0 : BitVec 32 := 0#32
  let c0_i32_1 : BitVec 32 := 0#32
  ![v3.toNat, c0_i32.toNat, c0_i32_0.toNat]

def cc0_transform_95 (k0_off1_inb : ∀ i : grid0.Coords, ∀ (r : Fin 32), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c31_i32 : BitVec 32 := 31#32
  let v1 : BitVec 32 := Scalar.addi v0 c31_i32
  let v2 : Index := Scalar.indexCast v1
  let v3 : BitVec 32 := pf.at 1 (Rect.unit (s := S416) ![v2.toNat] S1.size (k0_off1_inb i 31)) numel1_S1
  let c0_i32 : BitVec 32 := 0#32
  let c0_i32_0 : BitVec 32 := 0#32
  let c0_i32_1 : BitVec 32 := 0#32
  ![v3.toNat, c0_i32.toNat, c0_i32_0.toNat]

def cc0_transform_96 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x4096 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x4096 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x4096 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x4096 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x4096 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x4096 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x4096 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x4096 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x4096 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x4096 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x4096 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x4096 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x4096 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x4096 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x16x4096 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x16x4096 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x16x4096 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x16x4096 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x16x4096 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x16x4096 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x16x4096 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x16x4096 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x16x4096 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x16x4096 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x16x4096 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x16x4096 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x16x4096 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x16x4096 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x16x4096 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x16x4096 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x16x4096 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x16x4096 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x16x4096 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x16x4096 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x16x4096 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x16x4096 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x16x4096 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x16x4096 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x16x4096 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x16x4096 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x16x4096 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x16x4096 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x16x4096 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x16x4096 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x16x4096 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x16x4096 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x16x4096 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x16x4096 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x16x4096 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S1x16x4096 .f32 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]

abbrev stage0_68 : Fin 2 → Memref sig .tc .vmem S1x16x4096 .f32 := fun | 0 => Memref.whole cc0_stg68_0 | 1 => Memref.whole cc0_stg68_1 | ⟨_ + 2, h⟩ => absurd h (Nat.not_lt.2 (Nat.le_add_left _ _))
abbrev sem0_68 : Fin 2 → DmaSem sig := fun | 0 => cc0_sem68_0 | 1 => cc0_sem68_1 | ⟨_ + 2, h⟩ => absurd h (Nat.not_lt.2 (Nat.le_add_left _ _))
abbrev reads0_68 : Fin grid0.rank → Bool := ![true]

abbrev stage0_69 : Fin 2 → Memref sig .tc .vmem S1x16x4096 .f32 := fun | 0 => Memref.whole cc0_stg69_0 | 1 => Memref.whole cc0_stg69_1 | ⟨_ + 2, h⟩ => absurd h (Nat.not_lt.2 (Nat.le_add_left _ _))
abbrev sem0_69 : Fin 2 → DmaSem sig := fun | 0 => cc0_sem69_0 | 1 => cc0_sem69_1 | ⟨_ + 2, h⟩ => absurd h (Nat.not_lt.2 (Nat.le_add_left _ _))
abbrev reads0_69 : Fin grid0.rank → Bool := ![true]

abbrev stage0_70 : Fin 2 → Memref sig .tc .vmem S1x16x4096 .f32 := fun | 0 => Memref.whole cc0_stg70_0 | 1 => Memref.whole cc0_stg70_1 | ⟨_ + 2, h⟩ => absurd h (Nat.not_lt.2 (Nat.le_add_left _ _))
abbrev sem0_70 : Fin 2 → DmaSem sig := fun | 0 => cc0_sem70_0 | 1 => cc0_sem70_1 | ⟨_ + 2, h⟩ => absurd h (Nat.not_lt.2 (Nat.le_add_left _ _))
abbrev reads0_70 : Fin grid0.rank → Bool := ![true]

abbrev stage0_71 : Fin 2 → Memref sig .tc .vmem S1x16x4096 .f32 := fun | 0 => Memref.whole cc0_stg71_0 | 1 => Memref.whole cc0_stg71_1 | ⟨_ + 2, h⟩ => absurd h (Nat.not_lt.2 (Nat.le_add_left _ _))
abbrev sem0_71 : Fin 2 → DmaSem sig := fun | 0 => cc0_sem71_0 | 1 => cc0_sem71_1 | ⟨_ + 2, h⟩ => absurd h (Nat.not_lt.2 (Nat.le_add_left _ _))
abbrev reads0_71 : Fin grid0.rank → Bool := ![true]

abbrev stage0_72 : Fin 2 → Memref sig .tc .vmem S1x16x4096 .f32 := fun | 0 => Memref.whole cc0_stg72_0 | 1 => Memref.whole cc0_stg72_1 | ⟨_ + 2, h⟩ => absurd h (Nat.not_lt.2 (Nat.le_add_left _ _))
abbrev sem0_72 : Fin 2 → DmaSem sig := fun | 0 => cc0_sem72_0 | 1 => cc0_sem72_1 | ⟨_ + 2, h⟩ => absurd h (Nat.not_lt.2 (Nat.le_add_left _ _))
abbrev reads0_72 : Fin grid0.rank → Bool := ![true]

abbrev stage0_73 : Fin 2 → Memref sig .tc .vmem S1x16x4096 .f32 := fun | 0 => Memref.whole cc0_stg73_0 | 1 => Memref.whole cc0_stg73_1 | ⟨_ + 2, h⟩ => absurd h (Nat.not_lt.2 (Nat.le_add_left _ _))
abbrev sem0_73 : Fin 2 → DmaSem sig := fun | 0 => cc0_sem73_0 | 1 => cc0_sem73_1 | ⟨_ + 2, h⟩ => absurd h (Nat.not_lt.2 (Nat.le_add_left _ _))
abbrev reads0_73 : Fin grid0.rank → Bool := ![true]

abbrev stage0_74 : Fin 2 → Memref sig .tc .vmem S1x16x4096 .f32 := fun | 0 => Memref.whole cc0_stg74_0 | 1 => Memref.whole cc0_stg74_1 | ⟨_ + 2, h⟩ => absurd h (Nat.not_lt.2 (Nat.le_add_left _ _))
abbrev sem0_74 : Fin 2 → DmaSem sig := fun | 0 => cc0_sem74_0 | 1 => cc0_sem74_1 | ⟨_ + 2, h⟩ => absurd h (Nat.not_lt.2 (Nat.le_add_left _ _))
abbrev reads0_74 : Fin grid0.rank → Bool := ![true]

abbrev stage0_75 : Fin 2 → Memref sig .tc .vmem S1x16x4096 .f32 := fun | 0 => Memref.whole cc0_stg75_0 | 1 => Memref.whole cc0_stg75_1 | ⟨_ + 2, h⟩ => absurd h (Nat.not_lt.2 (Nat.le_add_left _ _))
abbrev sem0_75 : Fin 2 → DmaSem sig := fun | 0 => cc0_sem75_0 | 1 => cc0_sem75_1 | ⟨_ + 2, h⟩ => absurd h (Nat.not_lt.2 (Nat.le_add_left _ _))
abbrev reads0_75 : Fin grid0.rank → Bool := ![true]

abbrev stage0_76 : Fin 2 → Memref sig .tc .vmem S1x16x4096 .f32 := fun | 0 => Memref.whole cc0_stg76_0 | 1 => Memref.whole cc0_stg76_1 | ⟨_ + 2, h⟩ => absurd h (Nat.not_lt.2 (Nat.le_add_left _ _))
abbrev sem0_76 : Fin 2 → DmaSem sig := fun | 0 => cc0_sem76_0 | 1 => cc0_sem76_1 | ⟨_ + 2, h⟩ => absurd h (Nat.not_lt.2 (Nat.le_add_left _ _))
abbrev reads0_76 : Fin grid0.rank → Bool := ![true]

abbrev stage0_77 : Fin 2 → Memref sig .tc .vmem S1x16x4096 .f32 := fun | 0 => Memref.whole cc0_stg77_0 | 1 => Memref.whole cc0_stg77_1 | ⟨_ + 2, h⟩ => absurd h (Nat.not_lt.2 (Nat.le_add_left _ _))
abbrev sem0_77 : Fin 2 → DmaSem sig := fun | 0 => cc0_sem77_0 | 1 => cc0_sem77_1 | ⟨_ + 2, h⟩ => absurd h (Nat.not_lt.2 (Nat.le_add_left _ _))
abbrev reads0_77 : Fin grid0.rank → Bool := ![true]

abbrev stage0_78 : Fin 2 → Memref sig .tc .vmem S1x16x4096 .f32 := fun | 0 => Memref.whole cc0_stg78_0 | 1 => Memref.whole cc0_stg78_1 | ⟨_ + 2, h⟩ => absurd h (Nat.not_lt.2 (Nat.le_add_left _ _))
abbrev sem0_78 : Fin 2 → DmaSem sig := fun | 0 => cc0_sem78_0 | 1 => cc0_sem78_1 | ⟨_ + 2, h⟩ => absurd h (Nat.not_lt.2 (Nat.le_add_left _ _))
abbrev reads0_78 : Fin grid0.rank → Bool := ![true]

abbrev stage0_79 : Fin 2 → Memref sig .tc .vmem S1x16x4096 .f32 := fun | 0 => Memref.whole cc0_stg79_0 | 1 => Memref.whole cc0_stg79_1 | ⟨_ + 2, h⟩ => absurd h (Nat.not_lt.2 (Nat.le_add_left _ _))
abbrev sem0_79 : Fin 2 → DmaSem sig := fun | 0 => cc0_sem79_0 | 1 => cc0_sem79_1 | ⟨_ + 2, h⟩ => absurd h (Nat.not_lt.2 (Nat.le_add_left _ _))
abbrev reads0_79 : Fin grid0.rank → Bool := ![true]

abbrev stage0_80 : Fin 2 → Memref sig .tc .vmem S1x16x4096 .f32 := fun | 0 => Memref.whole cc0_stg80_0 | 1 => Memref.whole cc0_stg80_1 | ⟨_ + 2, h⟩ => absurd h (Nat.not_lt.2 (Nat.le_add_left _ _))
abbrev sem0_80 : Fin 2 → DmaSem sig := fun | 0 => cc0_sem80_0 | 1 => cc0_sem80_1 | ⟨_ + 2, h⟩ => absurd h (Nat.not_lt.2 (Nat.le_add_left _ _))
abbrev reads0_80 : Fin grid0.rank → Bool := ![true]

abbrev stage0_81 : Fin 2 → Memref sig .tc .vmem S1x16x4096 .f32 := fun | 0 => Memref.whole cc0_stg81_0 | 1 => Memref.whole cc0_stg81_1 | ⟨_ + 2, h⟩ => absurd h (Nat.not_lt.2 (Nat.le_add_left _ _))
abbrev sem0_81 : Fin 2 → DmaSem sig := fun | 0 => cc0_sem81_0 | 1 => cc0_sem81_1 | ⟨_ + 2, h⟩ => absurd h (Nat.not_lt.2 (Nat.le_add_left _ _))
abbrev reads0_81 : Fin grid0.rank → Bool := ![true]

abbrev stage0_82 : Fin 2 → Memref sig .tc .vmem S1x16x4096 .f32 := fun | 0 => Memref.whole cc0_stg82_0 | 1 => Memref.whole cc0_stg82_1 | ⟨_ + 2, h⟩ => absurd h (Nat.not_lt.2 (Nat.le_add_left _ _))
abbrev sem0_82 : Fin 2 → DmaSem sig := fun | 0 => cc0_sem82_0 | 1 => cc0_sem82_1 | ⟨_ + 2, h⟩ => absurd h (Nat.not_lt.2 (Nat.le_add_left _ _))
abbrev reads0_82 : Fin grid0.rank → Bool := ![true]

abbrev stage0_83 : Fin 2 → Memref sig .tc .vmem S1x16x4096 .f32 := fun | 0 => Memref.whole cc0_stg83_0 | 1 => Memref.whole cc0_stg83_1 | ⟨_ + 2, h⟩ => absurd h (Nat.not_lt.2 (Nat.le_add_left _ _))
abbrev sem0_83 : Fin 2 → DmaSem sig := fun | 0 => cc0_sem83_0 | 1 => cc0_sem83_1 | ⟨_ + 2, h⟩ => absurd h (Nat.not_lt.2 (Nat.le_add_left _ _))
abbrev reads0_83 : Fin grid0.rank → Bool := ![true]

abbrev stage0_84 : Fin 2 → Memref sig .tc .vmem S1x16x4096 .f32 := fun | 0 => Memref.whole cc0_stg84_0 | 1 => Memref.whole cc0_stg84_1 | ⟨_ + 2, h⟩ => absurd h (Nat.not_lt.2 (Nat.le_add_left _ _))
abbrev sem0_84 : Fin 2 → DmaSem sig := fun | 0 => cc0_sem84_0 | 1 => cc0_sem84_1 | ⟨_ + 2, h⟩ => absurd h (Nat.not_lt.2 (Nat.le_add_left _ _))
abbrev reads0_84 : Fin grid0.rank → Bool := ![true]

abbrev stage0_85 : Fin 2 → Memref sig .tc .vmem S1x16x4096 .f32 := fun | 0 => Memref.whole cc0_stg85_0 | 1 => Memref.whole cc0_stg85_1 | ⟨_ + 2, h⟩ => absurd h (Nat.not_lt.2 (Nat.le_add_left _ _))
abbrev sem0_85 : Fin 2 → DmaSem sig := fun | 0 => cc0_sem85_0 | 1 => cc0_sem85_1 | ⟨_ + 2, h⟩ => absurd h (Nat.not_lt.2 (Nat.le_add_left _ _))
abbrev reads0_85 : Fin grid0.rank → Bool := ![true]

abbrev stage0_86 : Fin 2 → Memref sig .tc .vmem S1x16x4096 .f32 := fun | 0 => Memref.whole cc0_stg86_0 | 1 => Memref.whole cc0_stg86_1 | ⟨_ + 2, h⟩ => absurd h (Nat.not_lt.2 (Nat.le_add_left _ _))
abbrev sem0_86 : Fin 2 → DmaSem sig := fun | 0 => cc0_sem86_0 | 1 => cc0_sem86_1 | ⟨_ + 2, h⟩ => absurd h (Nat.not_lt.2 (Nat.le_add_left _ _))
abbrev reads0_86 : Fin grid0.rank → Bool := ![true]

abbrev stage0_87 : Fin 2 → Memref sig .tc .vmem S1x16x4096 .f32 := fun | 0 => Memref.whole cc0_stg87_0 | 1 => Memref.whole cc0_stg87_1 | ⟨_ + 2, h⟩ => absurd h (Nat.not_lt.2 (Nat.le_add_left _ _))
abbrev sem0_87 : Fin 2 → DmaSem sig := fun | 0 => cc0_sem87_0 | 1 => cc0_sem87_1 | ⟨_ + 2, h⟩ => absurd h (Nat.not_lt.2 (Nat.le_add_left _ _))
abbrev reads0_87 : Fin grid0.rank → Bool := ![true]

abbrev stage0_88 : Fin 2 → Memref sig .tc .vmem S1x16x4096 .f32 := fun | 0 => Memref.whole cc0_stg88_0 | 1 => Memref.whole cc0_stg88_1 | ⟨_ + 2, h⟩ => absurd h (Nat.not_lt.2 (Nat.le_add_left _ _))
abbrev sem0_88 : Fin 2 → DmaSem sig := fun | 0 => cc0_sem88_0 | 1 => cc0_sem88_1 | ⟨_ + 2, h⟩ => absurd h (Nat.not_lt.2 (Nat.le_add_left _ _))
abbrev reads0_88 : Fin grid0.rank → Bool := ![true]

abbrev stage0_89 : Fin 2 → Memref sig .tc .vmem S1x16x4096 .f32 := fun | 0 => Memref.whole cc0_stg89_0 | 1 => Memref.whole cc0_stg89_1 | ⟨_ + 2, h⟩ => absurd h (Nat.not_lt.2 (Nat.le_add_left _ _))
abbrev sem0_89 : Fin 2 → DmaSem sig := fun | 0 => cc0_sem89_0 | 1 => cc0_sem89_1 | ⟨_ + 2, h⟩ => absurd h (Nat.not_lt.2 (Nat.le_add_left _ _))
abbrev reads0_89 : Fin grid0.rank → Bool := ![true]

abbrev stage0_90 : Fin 2 → Memref sig .tc .vmem S1x16x4096 .f32 := fun | 0 => Memref.whole cc0_stg90_0 | 1 => Memref.whole cc0_stg90_1 | ⟨_ + 2, h⟩ => absurd h (Nat.not_lt.2 (Nat.le_add_left _ _))
abbrev sem0_90 : Fin 2 → DmaSem sig := fun | 0 => cc0_sem90_0 | 1 => cc0_sem90_1 | ⟨_ + 2, h⟩ => absurd h (Nat.not_lt.2 (Nat.le_add_left _ _))
abbrev reads0_90 : Fin grid0.rank → Bool := ![true]

abbrev stage0_91 : Fin 2 → Memref sig .tc .vmem S1x16x4096 .f32 := fun | 0 => Memref.whole cc0_stg91_0 | 1 => Memref.whole cc0_stg91_1 | ⟨_ + 2, h⟩ => absurd h (Nat.not_lt.2 (Nat.le_add_left _ _))
abbrev sem0_91 : Fin 2 → DmaSem sig := fun | 0 => cc0_sem91_0 | 1 => cc0_sem91_1 | ⟨_ + 2, h⟩ => absurd h (Nat.not_lt.2 (Nat.le_add_left _ _))
abbrev reads0_91 : Fin grid0.rank → Bool := ![true]

abbrev stage0_92 : Fin 2 → Memref sig .tc .vmem S1x16x4096 .f32 := fun | 0 => Memref.whole cc0_stg92_0 | 1 => Memref.whole cc0_stg92_1 | ⟨_ + 2, h⟩ => absurd h (Nat.not_lt.2 (Nat.le_add_left _ _))
abbrev sem0_92 : Fin 2 → DmaSem sig := fun | 0 => cc0_sem92_0 | 1 => cc0_sem92_1 | ⟨_ + 2, h⟩ => absurd h (Nat.not_lt.2 (Nat.le_add_left _ _))
abbrev reads0_92 : Fin grid0.rank → Bool := ![true]

abbrev stage0_93 : Fin 2 → Memref sig .tc .vmem S1x16x4096 .f32 := fun | 0 => Memref.whole cc0_stg93_0 | 1 => Memref.whole cc0_stg93_1 | ⟨_ + 2, h⟩ => absurd h (Nat.not_lt.2 (Nat.le_add_left _ _))
abbrev sem0_93 : Fin 2 → DmaSem sig := fun | 0 => cc0_sem93_0 | 1 => cc0_sem93_1 | ⟨_ + 2, h⟩ => absurd h (Nat.not_lt.2 (Nat.le_add_left _ _))
abbrev reads0_93 : Fin grid0.rank → Bool := ![true]

abbrev stage0_94 : Fin 2 → Memref sig .tc .vmem S1x16x4096 .f32 := fun | 0 => Memref.whole cc0_stg94_0 | 1 => Memref.whole cc0_stg94_1 | ⟨_ + 2, h⟩ => absurd h (Nat.not_lt.2 (Nat.le_add_left _ _))
abbrev sem0_94 : Fin 2 → DmaSem sig := fun | 0 => cc0_sem94_0 | 1 => cc0_sem94_1 | ⟨_ + 2, h⟩ => absurd h (Nat.not_lt.2 (Nat.le_add_left _ _))
abbrev reads0_94 : Fin grid0.rank → Bool := ![true]

abbrev stage0_95 : Fin 2 → Memref sig .tc .vmem S1x16x4096 .f32 := fun | 0 => Memref.whole cc0_stg95_0 | 1 => Memref.whole cc0_stg95_1 | ⟨_ + 2, h⟩ => absurd h (Nat.not_lt.2 (Nat.le_add_left _ _))
abbrev sem0_95 : Fin 2 → DmaSem sig := fun | 0 => cc0_sem95_0 | 1 => cc0_sem95_1 | ⟨_ + 2, h⟩ => absurd h (Nat.not_lt.2 (Nat.le_add_left _ _))
abbrev reads0_95 : Fin grid0.rank → Bool := ![true]

abbrev stage0_96 : Fin 1 → Memref sig .tc .vmem S128x4096 .f32 := fun | 0 => Memref.whole cc0_stg96_0 | ⟨_ + 1, h⟩ => absurd h (Nat.not_lt.2 (Nat.le_add_left _ _))
abbrev sem0_96 : Fin 1 → DmaSem sig := fun | 0 => cc0_sem96_0 | ⟨_ + 1, h⟩ => absurd h (Nat.not_lt.2 (Nat.le_add_left _ _))
abbrev reads0_96 : Fin grid0.rank → Bool := ![false]
-- ==== ReferenceIdeal.lean ====
abbrev S128x1x4096 : Shape := ⟨3, ![128, 1, 4096]⟩
abbrev S416 : Shape := ⟨1, ![416]⟩
abbrev S264x4096x16 : Shape := ⟨3, ![264, 4096, 16]⟩
abbrev S264x16x4096 : Shape := ⟨3, ![264, 16, 4096]⟩
abbrev S_ : Shape := ⟨0, ![]⟩
abbrev S416x1 : Shape := ⟨2, ![416, 1]⟩
abbrev S1 : Shape := ⟨1, ![1]⟩
abbrev S1x1 : Shape := ⟨2, ![1, 1]⟩
abbrev S416x1x4096 : Shape := ⟨3, ![416, 1, 4096]⟩
abbrev S416x4096x16 : Shape := ⟨3, ![416, 4096, 16]⟩
abbrev S416x16x4096 : Shape := ⟨3, ![416, 16, 4096]⟩
abbrev S416x1x16 : Shape := ⟨3, ![416, 1, 16]⟩
abbrev S384x1x4096 : Shape := ⟨3, ![384, 1, 4096]⟩
abbrev S96x4x1x4096 : Shape := ⟨4, ![96, 4, 1, 4096]⟩
abbrev S96x1x4096 : Shape := ⟨3, ![96, 1, 4096]⟩
abbrev S32x1x4096 : Shape := ⟨3, ![32, 1, 4096]⟩

abbrev nBuf : Space → Nat
  | .hbm => 85
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S416, .i32⟩
  | .hbm, ⟨2, _⟩ => ⟨S416, .i32⟩
  | .hbm, ⟨3, _⟩ => ⟨S264x4096x16, .f32⟩
  | .hbm, ⟨4, _⟩ => ⟨S264x16x4096, .f32⟩
  | .hbm, ⟨5, _⟩ => ⟨S_, .i32⟩
  | .hbm, ⟨6, _⟩ => ⟨S416, .i32⟩
  | .hbm, ⟨7, _⟩ => ⟨S416, .i1⟩
  | .hbm, ⟨8, _⟩ => ⟨S_, .i32⟩
  | .hbm, ⟨9, _⟩ => ⟨S416, .i32⟩
  | .hbm, ⟨10, _⟩ => ⟨S416, .i32⟩
  | .hbm, ⟨11, _⟩ => ⟨S416, .i32⟩
  | .hbm, ⟨12, _⟩ => ⟨S416x1, .i32⟩
  | .hbm, ⟨13, _⟩ => ⟨S1, .i32⟩
  | .hbm, ⟨14, _⟩ => ⟨S_, .i32⟩
  | .hbm, ⟨15, _⟩ => ⟨S416x1, .i32⟩
  | .hbm, ⟨16, _⟩ => ⟨S416x1, .i1⟩
  | .hbm, ⟨17, _⟩ => ⟨S1x1, .i32⟩
  | .hbm, ⟨18, _⟩ => ⟨S416x1, .i32⟩
  | .hbm, ⟨19, _⟩ => ⟨S416x1, .i1⟩
  | .hbm, ⟨20, _⟩ => ⟨S416x1, .i1⟩
  | .hbm, ⟨21, _⟩ => ⟨S_, .i1⟩
  | .hbm, ⟨22, _⟩ => ⟨S416, .i1⟩
  | .hbm, ⟨23, _⟩ => ⟨S416x1x4096, .f32⟩
  | .hbm, ⟨24, _⟩ => ⟨S416x1x4096, .i1⟩
  | .hbm, ⟨25, _⟩ => ⟨S_, .f32⟩
  | .hbm, ⟨26, _⟩ => ⟨S416x1x4096, .f32⟩
  | .hbm, ⟨27, _⟩ => ⟨S416x1x4096, .f32⟩
  | .hbm, ⟨28, _⟩ => ⟨S_, .i32⟩
  | .hbm, ⟨29, _⟩ => ⟨S416, .i32⟩
  | .hbm, ⟨30, _⟩ => ⟨S416, .i1⟩
  | .hbm, ⟨31, _⟩ => ⟨S_, .i32⟩
  | .hbm, ⟨32, _⟩ => ⟨S416, .i32⟩
  | .hbm, ⟨33, _⟩ => ⟨S416, .i32⟩
  | .hbm, ⟨34, _⟩ => ⟨S416, .i32⟩
  | .hbm, ⟨35, _⟩ => ⟨S416x1, .i32⟩
  | .hbm, ⟨36, _⟩ => ⟨S1, .i32⟩
  | .hbm, ⟨37, _⟩ => ⟨S_, .i32⟩
  | .hbm, ⟨38, _⟩ => ⟨S416x1, .i32⟩
  | .hbm, ⟨39, _⟩ => ⟨S416x1, .i1⟩
  | .hbm, ⟨40, _⟩ => ⟨S1x1, .i32⟩
  | .hbm, ⟨41, _⟩ => ⟨S416x1, .i32⟩
  | .hbm, ⟨42, _⟩ => ⟨S416x1, .i1⟩
  | .hbm, ⟨43, _⟩ => ⟨S416x1, .i1⟩
  | .hbm, ⟨44, _⟩ => ⟨S_, .i1⟩
  | .hbm, ⟨45, _⟩ => ⟨S416, .i1⟩
  | .hbm, ⟨46, _⟩ => ⟨S416x4096x16, .f32⟩
  | .hbm, ⟨47, _⟩ => ⟨S416x4096x16, .i1⟩
  | .hbm, ⟨48, _⟩ => ⟨S_, .f32⟩
  | .hbm, ⟨49, _⟩ => ⟨S416x4096x16, .f32⟩
  | .hbm, ⟨50, _⟩ => ⟨S416x4096x16, .f32⟩
  | .hbm, ⟨51, _⟩ => ⟨S_, .i32⟩
  | .hbm, ⟨52, _⟩ => ⟨S416, .i32⟩
  | .hbm, ⟨53, _⟩ => ⟨S416, .i1⟩
  | .hbm, ⟨54, _⟩ => ⟨S_, .i32⟩
  | .hbm, ⟨55, _⟩ => ⟨S416, .i32⟩
  | .hbm, ⟨56, _⟩ => ⟨S416, .i32⟩
  | .hbm, ⟨57, _⟩ => ⟨S416, .i32⟩
  | .hbm, ⟨58, _⟩ => ⟨S416x1, .i32⟩
  | .hbm, ⟨59, _⟩ => ⟨S1, .i32⟩
  | .hbm, ⟨60, _⟩ => ⟨S_, .i32⟩
  | .hbm, ⟨61, _⟩ => ⟨S416x1, .i32⟩
  | .hbm, ⟨62, _⟩ => ⟨S416x1, .i1⟩
  | .hbm, ⟨63, _⟩ => ⟨S1x1, .i32⟩
  | .hbm, ⟨64, _⟩ => ⟨S416x1, .i32⟩
  | .hbm, ⟨65, _⟩ => ⟨S416x1, .i1⟩
  | .hbm, ⟨66, _⟩ => ⟨S416x1, .i1⟩
  | .hbm, ⟨67, _⟩ => ⟨S_, .i1⟩
  | .hbm, ⟨68, _⟩ => ⟨S416, .i1⟩
  | .hbm, ⟨69, _⟩ => ⟨S416x16x4096, .f32⟩
  | .hbm, ⟨70, _⟩ => ⟨S416x16x4096, .i1⟩
  | .hbm, ⟨71, _⟩ => ⟨S_, .f32⟩
  | .hbm, ⟨72, _⟩ => ⟨S416x16x4096, .f32⟩
  | .hbm, ⟨73, _⟩ => ⟨S416x16x4096, .f32⟩
  | .hbm, ⟨74, _⟩ => ⟨S416x1x16, .f32⟩
  | .hbm, ⟨75, _⟩ => ⟨S416x1x4096, .f32⟩
  | .hbm, ⟨76, _⟩ => ⟨S_, .f32⟩
  | .hbm, ⟨77, _⟩ => ⟨S416x1x4096, .f32⟩
  | .hbm, ⟨78, _⟩ => ⟨S416x1x4096, .f32⟩
  | .hbm, ⟨79, _⟩ => ⟨S384x1x4096, .f32⟩
  | .hbm, ⟨80, _⟩ => ⟨S96x4x1x4096, .f32⟩
  | .hbm, ⟨81, _⟩ => ⟨S_, .f32⟩
  | .hbm, ⟨82, _⟩ => ⟨S96x1x4096, .f32⟩
  | .hbm, ⟨83, _⟩ => ⟨S32x1x4096, .f32⟩
  | .hbm, ⟨84, _⟩ => ⟨S128x1x4096, .f32⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_cst : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_cst_0 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩

abbrev nD : Nat := 1
abbrev τ : Topo := Topo.v7x

variable {F : FTy → Type} [FloatOps F]
-- ==== Proof.Family.lean ====
/-
  Stepping a program over a FAMILY of buffers: the thread holds every member of a finite family of
  memrefs at known contents, as one big separating conjunction, and a load or a store names one
  member. The family goes through a load unchanged and through a store with that member's contents
  changed, so that a body with very many windows is run without listing what it holds.
-/
module

public import Idealize.ShloMosaic.Lib.Pipeline.Value
public import Idealize.ShloMosaic.Lib.Pipeline.FrameBody
public import Idealize.SL.ProofMode.BigOp

@[expose] public section

noncomputable section

namespace Cert.Family

open Idealize.ShloMosaic Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} {𝒱 : Variants} {c : Thread nD τ} {bd : Option 𝒱.V} {E : Set Name}
variable {n : Nat} {α : Fin n → Type}
variable {β : Type} {s : Shape} {e : EltTy} {cs : CoreSpace}

/-- A load through a rectangle of member `w` of the family, held at contents that `mm` reads as `X`:
    the program goes on at `X` on the rectangle, the family unchanged. -/
theorem wp_load_member (P : (w : Fin n) → α w → sProp 𝕄) (Y : (w : Fin n) → α w) (w : Fin n) {Q : β → sProp 𝕄} {mm : Memref sig c.2.kind cs s e} {X : s.Idx → Val e} {r : Rect s} {hl : mm.view.LoadsAt r.toLoadRect}
    {k : (r.shape.Idx → Val e) → Prog (TpuEff nD τ sig Val Λ c.2) β}
    (hP : P w (Y w) = (owns c mm fullShare X : sProp 𝕄))
    (hk : (bigSep Finset.univ fun j => P j (Y j)) ⊢ (wp frame (wpE defs 𝒱 c bd) E (k (View.ld X r)) Q : sProp 𝕄)) :
    (bigSep Finset.univ fun j => P j (Y j))
      ⊢ (wp frame (wpE defs 𝒱 c bd) E (Prog.lift (.load mm r.toLoadRect hl) >>= k) Q : sProp 𝕄) := by
  refine (BI.bigSep_univ_turn P Y w).trans ?_
  have hback : iprop(∀ x, P w x -∗ bigSep Finset.univ fun j => P j (Function.update Y w x j))
      ⊢ iprop(owns c mm fullShare X -∗ bigSep Finset.univ fun j => P j (Y j)) := by
    iintro H
    ispecialize H $$ %(Y w)
    rw [Function.update_eq_self, hP]
    iexact H
  rw [hP]
  refine (sep_mono .rfl hback).trans ?_
  rw [owns]
  iintro ⟨H, Hback⟩
  icases H with ⟨%f, %hf, H⟩
  subst hf
  iapply (wp_load (defs := defs) 𝒱 c bd E (k := fun x => k x) (Q := Q) (hl := hl) (q := fullShare) (f := f)
    (mm.view.setOn_subset_set r.toLoadRect.set)) $$ H
  iintro H
  iapply hk
  iapply Hback
  iexists f
  isplitr
  · ipureintro; rfl
  · iexact H

/-- An unmasked store through a rectangle of member `w` of the family: the program goes on with that member
    at any contents that are the payload on the rectangle and the old contents off it. -/
theorem wp_store_member (P : (w : Fin n) → α w → sProp 𝕄) (Y : (w : Fin n) → α w) (w : Fin n) {Q : β → sProp 𝕄} {mm : Memref sig c.2.kind cs s e} (ι : (s.Idx → Val e) → α w) {X : s.Idx → Val e} {r : Rect s}
    {v : r.shape.Idx → Val e} {hx : (mm.access r).Stores Finset.univ} {hm : Finset.univ = Finset.univ ∨ ∀ a, r.stride a = 1}
    {k : PUnit → Prog (TpuEff nD τ sig Val Λ c.2) β}
    (hY : Y w = ι X) (hP : ∀ X', P w (ι X') = (owns c mm fullShare X' : sProp 𝕄))
    (hk : ∀ X', (∀ x, X' (r.emb x) = v x) → (∀ y, y ∉ r.set → X' y = X y) →
      (bigSep Finset.univ fun j => P j (Function.update Y w (ι X') j)) ⊢ (wp frame (wpE defs 𝒱 c bd) E (k ⟨⟩) Q : sProp 𝕄)) :
    (bigSep Finset.univ fun j => P j (Y j))
      ⊢ (wp frame (wpE defs 𝒱 c bd) E (Prog.lift (.store mm r v Finset.univ hx hm) >>= k) Q : sProp 𝕄) := by
  refine (BI.bigSep_univ_turn P Y w).trans ?_
  rw [hY, hP]
  iintro ⟨H, Hback⟩
  unfold owns
  icases H with ⟨%f, %hf, H⟩
  subst hf
  iapply (wp_store (defs := defs) 𝒱 c bd E (w := v) (k := fun x => k x) (Q := Q) (hx := hx) (hm := hm) (Mk := Finset.univ) (f := f)
    (S := mm.view.set) (show (mm.view.slice r).setOn Finset.univ ⊆ mm.view.set from
      ((mm.view.slice r).setOn_subset_set _).trans (mm.view.set_slice_subset r))) $$ H
  iintro H
  iapply (hk (mm.view.read Val ((mm.view.slice r).write Val f v Finset.univ))
    (fun x => View.read_slice_write_emb r f v (Finset.mem_univ x))
    (fun y hy => View.read_slice_write_of_not_mem r f v _ (by rwa [Rect.map_emb_univ])))
  ispecialize Hback $$ %(ι (mm.view.read Val ((mm.view.slice r).write Val f v Finset.univ)))
  iapply Hback
  rw [hP]
  iapply (owns_intro c mm fullShare _)
  iexact H

end Cert.Family
-- ==== Proof.Body.lean ====
/-
  One point of the grid: over the 97 staged blocks the body computes 32 rows, one for each triple of a row and two
  matrices, and writes either the eight sums of four or all 32 into the output's block.
-/
module

public import proofs.«01_k».proof.Proof.Gen.Kernel.Skeleton
public import proofs.«01_k».proof.Proof.Gen.Kernel.Launch
public import proofs.«01_k».proof.Proof.Family
public import Idealize.ShloMosaic.Lib.Pipeline.FrameBody
public import Idealize.ShloMosaic.Lib.Pipeline.Value

@[expose] public section

set_option maxRecDepth 65536

noncomputable section

namespace Cert.Kernel.Hand

open Cert.Kernel Cert.Kernel.Gen Cert.Family
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- What the 97 windows' current buffers hold: a block each. -/
abbrev Blocks (F : FTy → Type) : Type := (w : Fin 97) → (spec0 w).block.Idx → Elt F (spec0 w).elt

/-- The 97 current staging buffers held whole, each at its block. -/
abbrev held (c : Dev nD) (s : (w : Fin 97) → Fin (spec0 w).nbuf) (Y : Blocks F) : sProp 𝕄 :=
  bigSep Finset.univ fun w => owns (c.tc : Thread nD τ) ((spec0 w).stage (s w)) fullShare (Y w)

variable {𝒱 : Variants} {c : Dev nD} {E : Set Name} {s : (w : Fin 97) → Fin (spec0 w).nbuf} {β : Type}

/-- Loading the whole of window `w`'s buffer reads its block. -/
theorem ld {Y : Blocks F} (w : Fin 97) {S : Shape} {e : EltTy} {mm : Memref sig .tc .vmem S e} {X : S.Idx → Elt F e}
    {off : Fin S.rank → Nat} {hin : ∀ a, off a + S.size a ≤ S.size a} {hl : mm.view.LoadsAt (Rect.unit (s := S) off S.size hin).toLoadRect}
    {k : (S.Idx → Elt F e) → Prog (TpuEff nD τ sig (Elt F) Λ₀ .tc) β} {Q : β → sProp 𝕄}
    (hP : (owns (c.tc : Thread nD τ) ((spec0 w).stage (s w)) fullShare (Y w) : sProp 𝕄) = owns (c.tc : Thread nD τ) mm fullShare X)
    (hz : off = fun _ => 0)
    (hk : held c s Y ⊢ (wp frame (wpE defs₀ 𝒱 (c.tc : Thread nD τ) none) E (k X) Q : sProp 𝕄)) :
    held c s Y ⊢ (wp frame (wpE defs₀ 𝒱 (c.tc : Thread nD τ) none) E
      (Prog.lift (.load mm (Rect.unit (s := S) off S.size hin).toLoadRect hl) >>= k) Q : sProp 𝕄) := by
  refine wp_load_member (c := (c.tc : Thread nD τ)) (fun w y => owns (c.tc : Thread nD τ) ((spec0 w).stage (s w)) fullShare y) Y w hP ?_
  rw [View.ld_unit_zero hz hin X]
  exact hk

/-- The starting corner of a load of a whole block is zero on every axis. -/
theorem hz3 : (![0, 0, 0] : Fin 3 → Nat) = fun _ => 0 := by decide

/-- A part of the body run before the rest of it. -/
theorem part {P : sProp 𝕄} {α : Type} {p : Prog (TpuEff nD τ sig (Elt F) Λ₀ .tc) α} (p' : Prog (TpuEff nD τ sig (Elt F) Λ₀ .tc) α) (hp : p = p')
    {k : α → Prog (TpuEff nD τ sig (Elt F) Λ₀ .tc) β} {Q : β → sProp 𝕄}
    (h : P ⊢ (wp frame (wpE defs₀ 𝒱 (c.tc : Thread nD τ) none) E p' (fun x => wp frame (wpE defs₀ 𝒱 (c.tc : Thread nD τ) none) E (k x) Q) : sProp 𝕄)) :
    P ⊢ (wp frame (wpE defs₀ 𝒱 (c.tc : Thread nD τ) none) E (p >>= k) Q : sProp 𝕄) := by
  rw [wp_bind, hp]; exact h

/-- A finished program meets its postcondition. -/
theorem done {P : sProp 𝕄} {a : β} {Q : β → sProp 𝕄} (h : P ⊢ Q a) :
    P ⊢ (wp frame (wpE defs₀ 𝒱 (c.tc : Thread nD τ) none) E (pure a) Q : sProp 𝕄) := by
  rw [wp_pure]; exact h.trans (fupd_intro)

/-! ## The rows -/

/-- The low-rank row of one window triple: the row `x` against each of the sixteen rows of `a`, doubled, and the
    combination of the rows of `b` at those sixteen weights. -/
abbrev row (x : S1x1x4096.Idx → Elt F .f32) (a b : S1x16x4096.Idx → Elt F .f32) : S1x4096.Idx → Elt F .f32 := k0_pay37 x a b

/-- The row that triple `k` of the windows' blocks gives. -/
def ys (Y : Blocks F) : Fin 32 → S1x4096.Idx → Elt F .f32
  | 0 => row (Y 0) (Y 32) (Y 64)
  | 1 => row (Y 1) (Y 33) (Y 65)
  | 2 => row (Y 2) (Y 34) (Y 66)
  | 3 => row (Y 3) (Y 35) (Y 67)
  | 4 => row (Y 4) (Y 36) (Y 68)
  | 5 => row (Y 5) (Y 37) (Y 69)
  | 6 => row (Y 6) (Y 38) (Y 70)
  | 7 => row (Y 7) (Y 39) (Y 71)
  | 8 => row (Y 8) (Y 40) (Y 72)
  | 9 => row (Y 9) (Y 41) (Y 73)
  | 10 => row (Y 10) (Y 42) (Y 74)
  | 11 => row (Y 11) (Y 43) (Y 75)
  | 12 => row (Y 12) (Y 44) (Y 76)
  | 13 => row (Y 13) (Y 45) (Y 77)
  | 14 => row (Y 14) (Y 46) (Y 78)
  | 15 => row (Y 15) (Y 47) (Y 79)
  | 16 => row (Y 16) (Y 48) (Y 80)
  | 17 => row (Y 17) (Y 49) (Y 81)
  | 18 => row (Y 18) (Y 50) (Y 82)
  | 19 => row (Y 19) (Y 51) (Y 83)
  | 20 => row (Y 20) (Y 52) (Y 84)
  | 21 => row (Y 21) (Y 53) (Y 85)
  | 22 => row (Y 22) (Y 54) (Y 86)
  | 23 => row (Y 23) (Y 55) (Y 87)
  | 24 => row (Y 24) (Y 56) (Y 88)
  | 25 => row (Y 25) (Y 57) (Y 89)
  | 26 => row (Y 26) (Y 58) (Y 90)
  | 27 => row (Y 27) (Y 59) (Y 91)
  | 28 => row (Y 28) (Y 60) (Y 92)
  | 29 => row (Y 29) (Y 61) (Y 93)
  | 30 => row (Y 30) (Y 62) (Y 94)
  | 31 => row (Y 31) (Y 63) (Y 95)
  | ⟨n + 32, h⟩ => absurd h (Nat.not_lt.2 (Nat.le_add_left _ _))

/-- The sum of the four rows of group `g`, in pairs. -/
def grp (Y : Blocks F) (g : Fin 8) : S1x4096.Idx → Elt F .f32 :=
  have h := g.isLt
  addf (F := F) (φ := .f32)
    (addf (F := F) (φ := .f32) (ys Y ⟨4 * g.val, by omega⟩) (ys Y ⟨4 * g.val + 1, by omega⟩))
    (addf (F := F) (φ := .f32) (ys Y ⟨4 * g.val + 2, by omega⟩) (ys Y ⟨4 * g.val + 3, by omega⟩))

/-- The index of column `j` in a row block. -/
def col (j : Fin 4096) : S1x4096.Idx := fun | 0 => (⟨0, by decide⟩ : Fin 1) | 1 => (j : Fin 4096)

/-- `X'` is `X` with the rows `base`, …, `base + n - 1` overwritten by the first `n` rows of `v`. -/
structure Rows {N : ℕ} (base : ℕ) (v : Fin N → S1x4096.Idx → Elt F .f32) (n : ℕ) (X X' : S128x4096.Idx → Elt F .f32) : Prop where
  at_row : ∀ (k : Fin N) (i : S128x4096.Idx), k.val < n → (i 0).val = base + k.val → X' i = v k (col (i 1))
  off_row : ∀ i : S128x4096.Idx, (i 0).val < base ∨ base + n ≤ (i 0).val → X' i = X i

/-- Before any row is overwritten, nothing has changed. -/
theorem Rows.zero {N : ℕ} (base : ℕ) (v : Fin N → S1x4096.Idx → Elt F .f32) (X : S128x4096.Idx → Elt F .f32) : Rows base v 0 X X :=
  ⟨fun k _ h => absurd h (Nat.not_lt_zero _), fun _ _ => rfl⟩

/-- Reading the output block's row `base + n` and overwriting it by row `n` of `v`, after the first `n` rows. -/
theorem put {N : ℕ} {base : ℕ} {v : Fin N → S1x4096.Idx → Elt F .f32} {Y : Blocks F} {X₀ X : S128x4096.Idx → Elt F .f32} (n : Fin N)
    {off : Fin 2 → ℕ} {hin : ∀ a, off a + S1x4096.size a ≤ S128x4096.size a} {w : S1x4096.Idx → Elt F .f32}
    {hl : (spec0_96.stage (s 96)).view.LoadsAt (Rect.unit (s := S128x4096) off S1x4096.size hin).toLoadRect}
    {hx : ((spec0_96.stage (s 96)).access (Rect.unit (s := S128x4096) off S1x4096.size hin)).Stores Finset.univ}
    {hm : Finset.univ = Finset.univ ∨ ∀ a, (Rect.unit (s := S128x4096) off S1x4096.size hin).stride a = 1}
    {k : PUnit → Prog (TpuEff nD τ sig (Elt F) Λ₀ .tc) β} {Q : β → sProp 𝕄}
    (hw : w = v n) (hoff : off = ![base + n.val, 0]) (hX : Rows base v n.val X₀ X)
    (hk : ∀ X', Rows base v (n.val + 1) X₀ X' → held c s (Function.update Y (96 : Fin 97) X')
      ⊢ (wp frame (wpE defs₀ 𝒱 (c.tc : Thread nD τ) none) E (k ⟨⟩) Q : sProp 𝕄)) :
    held c s (Function.update Y (96 : Fin 97) X) ⊢ (wp frame (wpE defs₀ 𝒱 (c.tc : Thread nD τ) none) E
      (Prog.lift (.load (spec0_96.stage (s 96)) (Rect.unit (s := S128x4096) off S1x4096.size hin).toLoadRect hl) >>= fun _ =>
        Prog.lift (.store (spec0_96.stage (s 96)) (Rect.unit (s := S128x4096) off S1x4096.size hin) w Finset.univ hx hm) >>= k) Q : sProp 𝕄) := by
  subst hw hoff
  refine wp_load_member (c := (c.tc : Thread nD τ)) (X := X) (fun w y => owns (c.tc : Thread nD τ) ((spec0 w).stage (s w)) fullShare y) _ 96
    (by rw [Function.update_self]) ?_
  refine wp_store_member (c := (c.tc : Thread nD τ)) (X := X) (fun w y => owns (c.tc : Thread nD τ) ((spec0 w).stage (s w)) fullShare y) _ 96
    (fun X => X) (Function.update_self ..) (fun _ => rfl) fun X' hon hoff => ?_
  rw [Function.update_idem]
  refine hk X' ⟨fun j i hj hi => ?_, fun i hi => ?_⟩
  · by_cases hjn : j.val = n.val
    · have hjn' : j = n := Fin.ext hjn
      subst hjn'
      rw [← hon (col (i 1))]
      refine congrArg X' (funext fun a => Fin.ext ?_)
      rw [Rect.emb_apply]
      fin_cases a
      · exact hi.trans (by simp [col])
      · simp [col]
    · rw [hoff i (fun hm => ?_), hX.at_row j i (by omega) hi]
      have h0 : base + n.val ≤ (i 0).val ∧ (i 0).val < base + n.val + 1 := Rect.mem_set_unit.mp hm 0
      omega
  · rw [hoff i (fun hm => ?_), hX.off_row i (by omega)]
    have h0 : base + n.val ≤ (i 0).val ∧ (i 0).val < base + n.val + 1 := Rect.mem_set_unit.mp hm 0
    omega

/-- Row `8 t + g` is where point `t` below twelve puts group `g`. -/
theorem off2_eq (t : Fin grid0.N) (g : Fin 8) : k0_off2 (grid0.coords t) (BitVec.ofNat 32 g.val) = ![8 * t.val + g.val, 0] := by
  revert t g; decide

/-- Row `96 + k` is where the last point puts row `k`. -/
theorem off3_eq (t : Fin grid0.N) (ht : ¬ t.val < 12) (k : Fin 32) : k0_off3 (grid0.coords t) (BitVec.ofNat 32 k.val) = ![96 + k.val, 0] := by
  revert t k; decide

/-- The first branch is taken at exactly the points below twelve. -/
theorem cond1_iff (t : Fin grid0.N) : k0_cond1 (grid0.coords t) = 1#1 ↔ t.val < 12 := by revert t; decide

/-- The second branch is taken at exactly the remaining point. -/
theorem cond2_iff (t : Fin grid0.N) : k0_cond2 (grid0.coords t) = 1#1 ↔ ¬ t.val < 12 := by revert t; decide

/-- A branch whose condition holds runs as its first side. -/
theorem whenT {P : sProp 𝕄} {b : Prop} [Decidable b] (hb : b) {p : b → Prog (TpuEff nD τ sig (Elt F) Λ₀ .tc) β} {q : ¬ b → Prog (TpuEff nD τ sig (Elt F) Λ₀ .tc) β} {Q : β → sProp 𝕄}
    (h : P ⊢ (wp frame (wpE defs₀ 𝒱 (c.tc : Thread nD τ) none) E (p hb) Q : sProp 𝕄)) :
    P ⊢ (wp frame (wpE defs₀ 𝒱 (c.tc : Thread nD τ) none) E (if h : b then p h else q h) Q : sProp 𝕄) := by
  rw [dif_pos hb]; exact h

/-- A branch whose condition fails runs as its other side. -/
theorem whenF {P : sProp 𝕄} {b : Prop} [Decidable b] (hb : ¬ b) {p : b → Prog (TpuEff nD τ sig (Elt F) Λ₀ .tc) β} {q : ¬ b → Prog (TpuEff nD τ sig (Elt F) Λ₀ .tc) β} {Q : β → sProp 𝕄}
    (h : P ⊢ (wp frame (wpE defs₀ 𝒱 (c.tc : Thread nD τ) none) E (q hb) Q : sProp 𝕄)) :
    P ⊢ (wp frame (wpE defs₀ 𝒱 (c.tc : Thread nD τ) none) E (if h : b then p h else q h) Q : sProp 𝕄) := by
  rw [dif_neg hb]; exact h

/-- `X` is the output block after point `t` at blocks `Y`: below twelve the eight rows from `8 t` are the groups'
    sums, at the last point the 32 rows from 96 are the triples' rows, and every other row is as found. -/
def Written (t : ℕ) (Y : Blocks F) (X : S128x4096.Idx → Elt F .f32) : Prop :=
  (t < 12 → Rows (8 * t) (grp Y) 8 (Y 96) X) ∧ (¬ t < 12 → Rows 96 (ys Y) 32 (Y 96) X)

/-- THE BODY at point `t` over the 97 current buffers at blocks `Y`: it ends with every buffer as it was but the
    output block's, which has point `t`'s rows written. -/
theorem body_wp (t : Fin grid0.N) (Y : Blocks F) (Q : PUnit → sProp 𝕄)
    (hQ : ∀ X, Written t.val Y X → held c s (Function.update Y (96 : Fin 97) X) ⊢ Q ⟨⟩) :
    held c s Y ⊢ (wp frame (wpE defs₀ 𝒱 (c.tc : Thread nD τ) none) E (defs₀ .tc 0 (t, s)) Q : sProp 𝕄) := by
  unfold defs₀; rw [Defs.onTc_tc]
  rw [cc0__lora_body_eq_skeleton]
  unfold cc0__lora_body_skel
  refine part _ (by rw [k0_part5_eq_skeleton]) ?_; refine ld 0 rfl hz3 ?_; refine ld 32 rfl hz3 ?_; refine ld 64 rfl hz3 ?_; refine ld 1 rfl hz3 ?_; refine ld 33 rfl hz3 ?_; refine ld 65 rfl hz3 ?_; refine ld 2 rfl hz3 ?_; refine ld 34 rfl hz3 ?_; refine done ?_
  refine part _ (by rw [k0_part6_eq_skeleton]) ?_; refine ld 66 rfl hz3 ?_; refine ld 3 rfl hz3 ?_; refine ld 35 rfl hz3 ?_; refine ld 67 rfl hz3 ?_; refine ld 4 rfl hz3 ?_; refine ld 36 rfl hz3 ?_; refine ld 68 rfl hz3 ?_; refine done ?_
  refine part _ (by rw [k0_part7_eq_skeleton]) ?_; refine ld 5 rfl hz3 ?_; refine ld 37 rfl hz3 ?_; refine ld 69 rfl hz3 ?_; refine ld 6 rfl hz3 ?_; refine ld 38 rfl hz3 ?_; refine ld 70 rfl hz3 ?_; refine ld 7 rfl hz3 ?_; refine done ?_
  refine part _ (by rw [k0_part8_eq_skeleton]) ?_; refine ld 39 rfl hz3 ?_; refine ld 71 rfl hz3 ?_; refine ld 8 rfl hz3 ?_; refine ld 40 rfl hz3 ?_; refine ld 72 rfl hz3 ?_; refine ld 9 rfl hz3 ?_; refine ld 41 rfl hz3 ?_; refine ld 73 rfl hz3 ?_; refine done ?_
  refine part _ (by rw [k0_part9_eq_skeleton]) ?_; refine ld 10 rfl hz3 ?_; refine ld 42 rfl hz3 ?_; refine ld 74 rfl hz3 ?_; refine ld 11 rfl hz3 ?_; refine ld 43 rfl hz3 ?_; refine ld 75 rfl hz3 ?_; refine done ?_
  refine part _ (by rw [k0_part10_eq_skeleton]) ?_; refine ld 12 rfl hz3 ?_; refine ld 44 rfl hz3 ?_; refine ld 76 rfl hz3 ?_; refine ld 13 rfl hz3 ?_; refine ld 45 rfl hz3 ?_; refine ld 77 rfl hz3 ?_; refine ld 14 rfl hz3 ?_; refine ld 46 rfl hz3 ?_; refine done ?_
  refine part _ (by rw [k0_part11_eq_skeleton]) ?_; refine ld 78 rfl hz3 ?_; refine ld 15 rfl hz3 ?_; refine ld 47 rfl hz3 ?_; refine ld 79 rfl hz3 ?_; refine ld 16 rfl hz3 ?_; refine ld 48 rfl hz3 ?_; refine ld 80 rfl hz3 ?_; refine done ?_
  refine part _ (by rw [k0_part12_eq_skeleton]) ?_; refine ld 17 rfl hz3 ?_; refine ld 49 rfl hz3 ?_; refine ld 81 rfl hz3 ?_; refine ld 18 rfl hz3 ?_; refine ld 50 rfl hz3 ?_; refine ld 82 rfl hz3 ?_; refine ld 19 rfl hz3 ?_; refine done ?_
  refine part _ (by rw [k0_part13_eq_skeleton]) ?_; refine ld 51 rfl hz3 ?_; refine ld 83 rfl hz3 ?_; refine ld 20 rfl hz3 ?_; refine ld 52 rfl hz3 ?_; refine ld 84 rfl hz3 ?_; refine ld 21 rfl hz3 ?_; refine ld 53 rfl hz3 ?_; refine ld 85 rfl hz3 ?_; refine done ?_
  refine part _ (by rw [k0_part14_eq_skeleton]) ?_; refine ld 22 rfl hz3 ?_; refine ld 54 rfl hz3 ?_; refine ld 86 rfl hz3 ?_; refine ld 23 rfl hz3 ?_; refine ld 55 rfl hz3 ?_; refine ld 87 rfl hz3 ?_; refine done ?_
  refine part _ (by rw [k0_part15_eq_skeleton]) ?_; refine ld 24 rfl hz3 ?_; refine ld 56 rfl hz3 ?_; refine ld 88 rfl hz3 ?_; refine ld 25 rfl hz3 ?_; refine ld 57 rfl hz3 ?_; refine ld 89 rfl hz3 ?_; refine ld 26 rfl hz3 ?_; refine ld 58 rfl hz3 ?_; refine done ?_
  refine part _ (by rw [k0_part16_eq_skeleton]) ?_; refine ld 90 rfl hz3 ?_; refine ld 27 rfl hz3 ?_; refine ld 59 rfl hz3 ?_; refine ld 91 rfl hz3 ?_; refine ld 28 rfl hz3 ?_; refine ld 60 rfl hz3 ?_; refine ld 92 rfl hz3 ?_; refine done ?_
  refine part _ (by rw [k0_part17_eq_skeleton]) ?_; refine ld 29 rfl hz3 ?_; refine ld 61 rfl hz3 ?_; refine ld 93 rfl hz3 ?_; refine ld 30 rfl hz3 ?_; refine ld 62 rfl hz3 ?_; refine ld 94 rfl hz3 ?_; refine ld 31 rfl hz3 ?_; refine done ?_
  refine ld 63 rfl hz3 ?_; refine ld 95 rfl hz3 ?_
  rw [show held c s Y = (held c s (Function.update Y (96 : Fin 97) (Y 96)) : sProp 𝕄) by rw [Function.update_eq_self]]
  by_cases ht : t.val < 12
  · refine whenT ((cond1_iff t).mpr ht) ?_
    refine part _ (by rw [k0_part1_eq_skeleton]) ?_
    have hX : Rows (8 * t.val) (grp Y) 0 (Y 96) (Y 96) := Rows.zero _ _ _
    refine put 0 rfl (off2_eq t 0) hX ?_; intro X hX
    refine put 1 rfl (off2_eq t 1) hX ?_; intro X hX
    refine put 2 rfl (off2_eq t 2) hX ?_; intro X hX
    refine put 3 rfl (off2_eq t 3) hX ?_; intro X hX
    refine put 4 rfl (off2_eq t 4) hX ?_; intro X hX
    refine put 5 rfl (off2_eq t 5) hX ?_; intro X hX
    refine done ?_
    refine put 6 rfl (off2_eq t 6) hX ?_; intro X hX
    refine put 7 rfl (off2_eq t 7) hX ?_; intro X hX
    refine whenF (fun h => (cond2_iff t).mp h ht) ?_
    exact done (hQ _ ⟨fun _ => hX, fun h => absurd ht h⟩)
  · refine whenF (fun h => ht ((cond1_iff t).mp h)) ?_
    refine whenT ((cond2_iff t).mpr ht) ?_
    have hX : Rows 96 (ys Y) 0 (Y 96) (Y 96) := Rows.zero _ _ _
    refine part _ (by rw [k0_part2_eq_skeleton]) ?_
    refine put 0 rfl (off3_eq t ht 0) hX ?_; intro X hX
    refine put 1 rfl (off3_eq t ht 1) hX ?_; intro X hX
    refine put 2 rfl (off3_eq t ht 2) hX ?_; intro X hX
    refine put 3 rfl (off3_eq t ht 3) hX ?_; intro X hX
    refine put 4 rfl (off3_eq t ht 4) hX ?_; intro X hX
    refine put 5 rfl (off3_eq t ht 5) hX ?_; intro X hX
    refine put 6 rfl (off3_eq t ht 6) hX ?_; intro X hX
    refine put 7 rfl (off3_eq t ht 7) hX ?_; intro X hX
    refine put 8 rfl (off3_eq t ht 8) hX ?_; intro X hX
    refine done ?_
    refine part _ (by rw [k0_part3_eq_skeleton]) ?_
    refine put 9 rfl (off3_eq t ht 9) hX ?_; intro X hX
    refine put 10 rfl (off3_eq t ht 10) hX ?_; intro X hX
    refine put 11 rfl (off3_eq t ht 11) hX ?_; intro X hX
    refine put 12 rfl (off3_eq t ht 12) hX ?_; intro X hX
    refine put 13 rfl (off3_eq t ht 13) hX ?_; intro X hX
    refine put 14 rfl (off3_eq t ht 14) hX ?_; intro X hX
    refine put 15 rfl (off3_eq t ht 15) hX ?_; intro X hX
    refine put 16 rfl (off3_eq t ht 16) hX ?_; intro X hX
    refine put 17 rfl (off3_eq t ht 17) hX ?_; intro X hX
    refine put 18 rfl (off3_eq t ht 18) hX ?_; intro X hX
    refine done ?_
    refine part _ (by rw [k0_part4_eq_skeleton]) ?_
    refine put 19 rfl (off3_eq t ht 19) hX ?_; intro X hX
    refine put 20 rfl (off3_eq t ht 20) hX ?_; intro X hX
    refine put 21 rfl (off3_eq t ht 21) hX ?_; intro X hX
    refine put 22 rfl (off3_eq t ht 22) hX ?_; intro X hX
    refine put 23 rfl (off3_eq t ht 23) hX ?_; intro X hX
    refine put 24 rfl (off3_eq t ht 24) hX ?_; intro X hX
    refine put 25 rfl (off3_eq t ht 25) hX ?_; intro X hX
    refine put 26 rfl (off3_eq t ht 26) hX ?_; intro X hX
    refine put 27 rfl (off3_eq t ht 27) hX ?_; intro X hX
    refine put 28 rfl (off3_eq t ht 28) hX ?_; intro X hX
    refine done ?_
    refine put 29 rfl (off3_eq t ht 29) hX ?_; intro X hX
    refine put 30 rfl (off3_eq t ht 30) hX ?_; intro X hX
    refine put 31 rfl (off3_eq t ht 31) hX ?_; intro X hX
    exact done (hQ _ ⟨fun h => absurd h ht, fun _ => hX⟩)

end Cert.Kernel.Hand

end
-- ==== Proof.Tail.lean ====
/-
  A launch whose body is described by a RELATION that nevertheless determines every array at the end: the host lines
  after the region are then run over known contents, and the final memory is known buffer by buffer.
-/
module

public import Idealize.ShloMosaic.Lib.Pipeline.FrameSuffix

@[expose] public section

noncomputable section

namespace Cert.Tail

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

section Arrays

variable {nD : Nat} {τ : Topo} {sig : RefSig} {Val : EltTy → Type} {Λ₀ : Sem.Labels}
variable {Ix : Type} [DecidableEq Ix] {Name : Type} [DecidableEq Name] {U : Type} [URA U] {Lvl : Type}

variable {cfg : Cfg sig Λ₀} {c : Dev nD} (rd : RDat τ Val Ix Name U Lvl cfg c)
  (B : (w : Fin cfg.W) → Buf Val ((cfg.win w).arr.view.loc (c.tc : Thread nD τ)))

/-- Arrays whose contents after `n` points can only be `B` are held at `B`, which they may hold. -/
theorem arraysAt_open {n : ℕ} (hB : ∀ w F, rd.ArrAt w n F → F = B w) :
    (rd.arraysAt n : sProp (MT nD τ sig Ix Val Name U Lvl)) ⊢ iprop(⌜∀ w, rd.ArrAt w n (B w)⌝ ∗ rd.arrays B) := by
  classical
  have hw : ∀ w : Fin cfg.W,
      iprop(∃ F, ⌜rd.ArrAt w n F⌝ ∗ (cfg.win w).arr.view.loc (c.tc : Thread nD τ) ↦[(cfg.win w).arr.view.set]{rd.share w} F)
        ⊢ (iprop(⌜rd.ArrAt w n (B w)⌝ ∗ (cfg.win w).arr.view.loc (c.tc : Thread nD τ) ↦[(cfg.win w).arr.view.set]{rd.share w} B w)
            : sProp (MT nD τ sig Ix Val Name U Lvl)) := fun w => by
    iintro ⟨%F, %hF, H⟩
    obtain rfl := hB w F hF
    isplitr
    · ipureintro; exact hF
    · iexact H
  refine (BI.bigSep_mono fun w _ => hw w).trans ((BI.bigSep_pure_sep Finset.univ _ _).trans (sep_mono (pure_mono fun h w => h w (Finset.mem_univ w)) .rfl))

/-- Arrays held at contents they may hold after `n` points. -/
theorem arraysAt_close {n : ℕ} (hB : ∀ w, rd.ArrAt w n (B w)) :
    (rd.arrays B : sProp (MT nD τ sig Ix Val Name U Lvl)) ⊢ rd.arraysAt n := by
  refine BI.bigSep_mono fun w _ => ?_
  show ((cfg.win w).arr.view.loc (c.tc : Thread nD τ) ↦[(cfg.win w).arr.view.set]{rd.share w} B w : sProp (MT nD τ sig Ix Val Name U Lvl))
    ⊢ iprop(∃ F, ⌜rd.ArrAt w n F⌝ ∗ (cfg.win w).arr.view.loc (c.tc : Thread nD τ) ↦[(cfg.win w).arr.view.set]{rd.share w} F)
  iintro H
  iexists (B w)
  isplitr
  · ipureintro; exact hB w
  · iexact H

end Arrays

section Run

variable {nD : Nat} {τ : Topo} {sig : RefSig} {Val : EltTy → Type} [∀ e, Nonempty (Val e)]
variable {Λ₀ : Sem.Labels} {P : Type} [Fintype P] [DecidableEq P]
variable (pcs : P → PCfg sig Λ₀ Val) (a : (p : P) → (pcs p).Adm)
  (rds : (p : P) → (c : Dev nD) → RDat τ Val Unit ℕ (UR sig nD τ) ℕ (pin pcs a p) c) (p : P)
  (kit : PLaunchFacts₀ (nD := nD) (τ := τ) pcs p) (defs₀ : Defs nD τ sig Val Λ₀) (𝒱₀ : Variants)

local notation "𝕄" => MT nD τ sig Unit Val ℕ (UR sig nD τ) ℕ

/-- The contents after the lines `opss`, begun with the pipeline's arrays at `B` and every other buffer at `V₀`. -/
abbrev afterLines (V₀ : Dev nD → Valuation τ sig Val) (opss : List (List (HloOp τ sig Val)))
    (B : (c : Dev nD) → (w : Fin (pin pcs a p).W) → Buf Val (((pin pcs a p).win w).arr.view.loc (c.tc : Thread nD τ)))
    (c : Dev nD) (b : Ref sig .tc) : Buf Val ((c.tc : Thread nD τ).loc b) :=
  StableHlo.after opss.flatten (withArrays (pin pcs a p).spec c (V₀ c) (B c)) (Proc.devRef .tc b)

include kit in
/-- THE RUN of a program that prepares its buffers (`hmain`), runs one region whose data `rds` are relational, and goes on
    with host lines `opss`, when the relation determines each array's final contents as `B` (`hB`): the arrays end at
    `B`, the tables as they were, every bypassing buffer at what the lines leave there, and every counter at zero. -/
theorem run_determined (m : (ℓ : Loc nD τ sig) → Buf Val ℓ) (g : Dev nD → PrngReg)
    (main : Dev nD → Prog (TpuEff nD τ sig Val (Sig Λ₀ P fun p => (pcs p).Adm) .tc) PUnit)
    (hbody : ∀ c, (rds p c).BodyObligation defs₀ 𝒱₀ () Set.univ)
    (hq : ∀ c w, ((pin pcs a p).spec w).isOut = false → (rds p c).q w = shareOf (pin pcs a p).spec w)
    (howed : ∀ c t, (rds p c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rds p c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rds p c).Φ 0)
    (hout : ∀ c, (rds p c).Φ (Fin.last (pin pcs a p).N) ⊢ ΦA (pin pcs a p).spec c)
    (B : (c : Dev nD) → (w : Fin (pin pcs a p).W) → Buf Val (((pin pcs a p).win w).arr.view.loc (c.tc : Thread nD τ)))
    (hB : ∀ c w F, (rds p c).ArrAt w (pin pcs a p).N F → F = B c w)
    (Q : PUnit × MemSt nD τ sig Val → Prop)
    (hQ : ∀ s : MemSt nD τ sig Val,
      (∀ c : Dev nD, (∀ w, s.mem (((pin pcs a p).spec w).arr.view.loc (c.tc : Thread nD τ)) = B c w)
        ∧ (∀ k, s.mem ((c.tc : Thread nD τ).loc ((pcs p).pre.ref k)) = (a p).1 k)
        ∧ ∀ b ∈ restRefsP sig (pcs p).pre (pin pcs a p).spec, s.mem ((c.tc : Thread nD τ).loc b) = afterLines pcs a p V₀ opss B c b) →
      s.sem = (fun _ => 0) → Q (⟨⟩, s)) :
    θ_run (Pipeline.defs pcs defs₀) (onTc main) ⟨m, fun _ => 0, g⟩ Q := by
  classical
  have hbufs : ∀ c, (∀ w, (rds p c).ArrAt w (pin pcs a p).N (B c w)) → (rds p c).arrays (B c)
      = arrBufs (pin pcs a p).spec c (fun b => withArrays (pin pcs a p).spec c (V₀ c) (B c) (Proc.devRef .tc b)) := fun c h =>
    ((rds p c).arrBufs_eq_arrays kit.sharedIn kit.arr_whole (hq c) _ (B c) fun w =>
      (withArrays_arr_shared (pin pcs a p).spec c (V₀ c) (B c)
        ((rds p c).ArrAt_sharedIn kit.sharedIn (V₀ c) (hA c) (pin pcs a p).N (B c) h) w).symm).symm
  refine RDat.θ_run_region_pf_tail_quiescent pcs a rds () (kit.cellOf_inj a) p kit.win (OwnSemFacts.none (pin pcs a p).spec) kit.pre emb₁
    defs₀ 𝒱₀ m g main (fun _ => chain (opss.map StableHlo.seq)) hbody kit.block_pos kit.arr_whole kit.stage_whole howed
    (fun _ => iprop(emp)) (initOf (cells (pin pcs a) (kit.cellOf_inj a)) (launchToks (pin pcs a) (kit.cellOf_inj a)))
    ?hu (fun c b => V₀ c (Proc.devRef .tc b)) hmain
    (fun c => (rds p c).arrays_split_shared kit.sharedIn kit.arr_whole (hq c) _ _ (hA c)) hpf
    (fun c => iprop(∃ r, prngReg c r)) (fun c => iprop(∃ r, prngReg c r))
    (fun c => unscopedRestP (pcs p).pre (pin pcs a p).spec c fun b => V₀ c (Proc.devRef .tc b))
    (fun c => unscopedRestP (pcs p).pre (pin pcs a p).spec c (afterLines pcs a p V₀ opss B c))
    ?hX ?hI ?hO ?hT
    (fun c s => ∀ b ∈ restRefsP sig (pcs p).pre (pin pcs a p).spec, s.mem ((c.tc : Thread nD τ).loc b) = afterLines pcs a p V₀ opss B c b)
    ?hY (fun s h hz => hQ s (fun c => ⟨fun w => hB c w _ ((h c).1 w), (h c).2.1, (h c).2.2⟩) hz)
  case hu =>
    iintro Hu; imodintro
    isplitl [Hu]
    · iapply (show (ownU _ : sProp 𝕄) ⊢ BI.own (emb₁ (initOf (cells (pin pcs a) (kit.cellOf_inj a)) (launchToks (pin pcs a) (kit.cellOf_inj a)))) from .rfl)
      iexact Hu
    · rw [show bigSep (Finset.univ : Finset (Dev nD)) (fun _ => (iprop(emp) : sProp 𝕄)) = iprop(emp) from BI.bigSep_emp_const _]
      iempintro
  case hX =>
    intro c
    iintro ⟨HU, -, -, Hp, -⟩; imodintro
    isplitl [Hp]
    · iexists _; iexact Hp
    · iexact HU
  case hI =>
    intro c
    refine Entails.trans ?_ (hin c)
    unfold ΦA ΦT
    iintro ⟨Hp, Ht, Hr⟩
    isplitr [Ht]
    · isplitl [Hr] <;> iassumption
    · iexact Ht
  case hO =>
    intro c
    refine (hout c).trans ?_
    rw [ownSems0_none]; unfold ΦA
    iintro ⟨Hr, Hp⟩
    isplitl [Hp]; · iexact Hp
    isplitr; · iempintro
    iexact Hr
  case hT =>
    intro c Q'
    iintro ⟨Hk, Hb, Ha, HZ⟩
    ihave Ha' := (arraysAt_open (rds p c) (B c) (hB c)) $$ Ha
    icases Ha' with ⟨%hF, Ha⟩
    iapply (tail_seqs_bufs_b pcs defs₀ 𝒱₀ (pcs p).pre (pin pcs a p).spec c (V₀ c) (B c) opss hsub hfresh hkeep Q')
    isplitl [Hk]
    · iintro ⟨Hb, Ha, Hu⟩
      iapply Hk
      isplitl [Hb]; · iexact Hb
      isplitl [Ha]
      · iapply (arraysAt_close (rds p c) (B c) hF)
        iapply (Entails.of_eq (hbufs c hF).symm)
        iexact Ha
      · iexact Hu
    · isplitl [Hb]; · iexact Hb
      isplitl [Ha]
      · iapply (Entails.of_eq (hbufs c hF)); iexact Ha
      · iexact HZ
  case hY =>
    intro c s'
    iintro ⟨-, HZ, HSI⟩
    unfold unscopedRestP
    ihave H := (pointsTo_read_all (restRefsP sig (pcs p).pre (pin pcs a p).spec) (fun b => (c.tc : Thread nD τ).loc b) (afterLines pcs a p V₀ opss B c) s') $$ [HZ HSI]
    · isplitl [HZ] <;> iassumption
    icases H with ⟨%h, HSI⟩
    imodintro
    isplitr
    · ipureintro; exact h
    · iexact HSI

end Run

end Cert.Tail
-- ==== Proof.Run.lean ====
/-
  The pipeline of `Kernel`, its tables at admissible contents, as a relation: what each point leaves in the output's
  buffer given what it found there, and the one array those thirteen steps can end in.
-/
module

public import proofs.«01_k».proof.Proof.Body
public import proofs.«01_k».proof.Proof.Tail
public import Idealize.ShloMosaic.Lib.Pipeline.ArrRel

@[expose] public section

set_option maxRecDepth 65536

noncomputable section

namespace Cert.Kernel.Hand

open Cert.Kernel Cert.Kernel.Gen Cert.Family
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ (UR sig nD τ) ℕ

/-! ## The blocks a point is handed -/

section Data

variable (a : (pcfg0 (F := F)).Adm) (V₀ : Dev nD → Valuation τ sig (Elt F)) (c : Dev nD)

/-- Window `w`'s array at entry. -/
abbrev arrIn (w : Fin 97) : Buf (Elt F) ((win0 a w).arr.view.loc (c.tc : Thread nD τ)) := V₀ c (Proc.devRef .tc (Pipeline.arrRef spec0 w))

/-- The block of window `w`'s array at point `t`. -/
def blockAt (t : Fin grid0.N) : Blocks F := fun w j => ((win0 a w).blk t).view.read (Elt F) (arrIn a V₀ c w) j

/-- The rows do not read the output's buffer. -/
theorem ys_update (Y : Blocks F) (X) (k : Fin 32) : ys (Function.update Y (96 : Fin 97) X) k = ys Y k := by
  fin_cases k <;> rfl

/-- The groups' sums do not read the output's buffer. -/
theorem grp_update (Y : Blocks F) (X) (g : Fin 8) : grp (Function.update Y (96 : Fin 97) X) g = grp Y g := by
  unfold grp; simp only [ys_update]

/-- What point `t` makes of a buffer's contents: an input's stay, the output's get the point's rows, computed from the blocks of
    the arrays at entry. -/
def step : (w : Fin 97) → Fin grid0.N → (Y X : (spec0 w).block.Idx → Elt F (spec0 w).elt) → Prop :=
  Function.update (fun _ _ Y X => X = Y) (96 : Fin 97)
    fun t Y X => Written t.val (Function.update (blockAt a V₀ c t) (96 : Fin 97) Y) X

/-- The relational data: each buffer changes by `step`. -/
def rdat : Pipeline.RDat τ (Elt F) Unit ℕ (UR sig nD τ) ℕ (cfg0 a) c where
  A := arrIn a V₀ c
  after := step a V₀ c
  Φ := fun _ => iprop(Pipeline.ΦA spec0 c ∗ Pipeline.ΦT pre0 a.1 c)
  q := Pipeline.shareOf spec0
  owed := fun _ => 0

/-- An input's buffer stays as it is. -/
theorem after_ne {w : Fin 97} (h : w ≠ 96) (t : Fin grid0.N) (Y X) : (rdat a V₀ c).after w t Y X ↔ X = Y := by
  show step a V₀ c w t Y X ↔ _
  unfold step; rw [Function.update_of_ne h]

/-- The output's buffer gets the point's rows. -/
theorem after_out (t : Fin grid0.N) (Y X) : (rdat a V₀ c).after (96 : Fin 97) t Y X
    ↔ Written t.val (Function.update (blockAt a V₀ c t) (96 : Fin 97) Y) X := by
  show step a V₀ c (96 : Fin 97) t Y X ↔ _
  unfold step; rw [Function.update_self]

/-- Only window 96 is an output. -/
theorem in_of_ne : ∀ w : Fin 97, w ≠ 96 → (spec0 w).isOut = false := by decide

/-- An input's buffer holds its block, fetched at this point or kept from an earlier one. -/
theorem found_in (w : Fin 97) (h : w ≠ 96) (t : Fin grid0.N) (Y) (hY : (rdat a V₀ c).Finds w t Y) : Y = blockAt a V₀ c t w := by
  obtain ⟨d, rfl⟩ := (rdat a V₀ c).finds_in_eq_fetched w (in_of_ne w h) (fun _ _ _ => rfl) (fun t Y X hX => (after_ne a V₀ c h t Y X).1 hX) t Y hY
  funext j
  exact dif_pos (((win0 a w).moved_iff _ j).mpr fun x => (j x).isLt)

/-- THE BODY OBLIGATION: at each point the body, handed buffers the loop may hand it, leaves them related. -/
theorem body_obligation : (rdat a V₀ c).BodyObligation defs₀ Variants.none () Set.univ := by
  intro t Y hY
  have hY' : Y = Function.update (blockAt a V₀ c t) (96 : Fin 97) (Y (96 : Fin 97)) := by
    funext w
    by_cases h : w = (96 : Fin 97)
    · subst h; exact (Function.update_self (f := blockAt a V₀ c t) (96 : Fin 97) (Y (96 : Fin 97))).symm
    · exact (found_in a V₀ c w h t (Y w) (hY w)).trans (Function.update_of_ne h _ (blockAt a V₀ c t)).symm
  let R : sProp 𝕄 := iprop((rdat a V₀ c).Φ t.castSucc ∗ (rdat a V₀ c).owesAt () t.castSucc)
  let O : sProp 𝕄 := bigSep Finset.univ fun w : Fin 97 =>
    iprop(∃ X, ⌜(rdat a V₀ c).after w t (Y w) X⌝ ∗ owns (c.tc : Thread nD τ) ((spec0 w).stage ((cfg0 a).slots t w)) fullShare X)
  have hb := body_wp (𝒱 := Variants.none) (c := c) (E := Set.univ) (s := (cfg0 a).slots t) t Y (fun _ => O) fun X hX => by
    refine BI.bigSep_mono fun w _ => ?_
    have hw : (rdat a V₀ c).after w t (Y w) (Function.update Y (96 : Fin 97) X w) := by
      by_cases h : w = (96 : Fin 97)
      · subst h
        refine (after_out a V₀ c t (Y (96 : Fin 97)) _).2 ?_
        rw [Function.update_self, ← hY']; exact hX
      · exact (after_ne a V₀ c h t (Y w) _).2 (Function.update_of_ne h X Y)
    show (owns (c.tc : Thread nD τ) ((spec0 w).stage ((cfg0 a).slots t w)) fullShare (Function.update Y (96 : Fin 97) X w) : sProp 𝕄)
      ⊢ iprop(∃ X, ⌜(rdat a V₀ c).after w t (Y w) X⌝ ∗ owns (c.tc : Thread nD τ) ((spec0 w).stage ((cfg0 a).slots t w)) fullShare X)
    iintro H
    iexists (Function.update Y (96 : Fin 97) X w)
    isplitr
    · ipureintro; exact hw
    · iexact H
  have hf : iprop(R ∗ held c ((cfg0 a).slots t) Y)
      ⊢ (wp frame (wpE defs₀ Variants.none (c.tc : Thread nD τ) none) Set.univ (defs₀ .tc 0 (t, (cfg0 a).slots t)) fun _ => iprop(R ∗ O) : sProp 𝕄) :=
    (sep_mono .rfl hb).trans (wp_frame_l _ _ _)
  refine (BI.sep_assoc' (P := (rdat a V₀ c).Φ t.castSucc) (Q := (rdat a V₀ c).owesAt () t.castSucc)).trans (hf.trans (wp_mono _ _ _ fun _ => ?_))
  exact BI.sep_assoc

/-! ## The one array the thirteen steps end in -/

/-- The last point. -/
abbrev tLast : Fin grid0.N := t0_12

/-- The whole output: below row 96, row `i` is the sum of group `i % 8` of point `i / 8`; row `96 + k` is the row of triple `k` of the
    last point. -/
def outc : S128x4096.Idx → Elt F .f32 := fun i =>
  if h : (i 0).val < 96 then
    grp (blockAt a V₀ c ⟨(i 0).val / 8, by have := N_0; omega⟩) ⟨(i 0).val % 8, Nat.mod_lt _ (by decide)⟩ (col (i 1))
  else ys (blockAt a V₀ c tLast) ⟨(i 0).val - 96, by have : (i 0).val < 128 := (i 0).isLt; omega⟩ (col (i 1))

/-- The output is never fetched. -/
theorem fetch_out (t : Fin grid0.N) : (win0 a (96 : Fin 97)).fetch t = false := rfl

/-- The output is written back at the last point only. -/
theorem flush_out (t : Fin grid0.N) : (win0 a (96 : Fin 97)).flush t = true ↔ t = tLast := by
  have hN := N_0
  have h : (win0 a (96 : Fin 97)).flush t = decide (t.val + 1 = grid0.N) := by
    unfold Pipeline.Window.flush
    rw [show (win0 a (96 : Fin 97)).isOut = true from rfl]
    rw [Bool.true_and, decide_eq_false (show ¬ ∃ h : t.val + 1 < grid0.N, (win0 a (96 : Fin 97)).index ⟨t.val + 1, h⟩ ≠ (win0 a (96 : Fin 97)).index t from fun ⟨_, h⟩ => h rfl),
      Bool.or_false]
  rw [h, decide_eq_true_iff, Fin.ext_iff]
  show _ ↔ t.val = 12
  omega

/-- The sum of a group depends on the point and the group alone. -/
theorem grp_at {t t' : Fin grid0.N} {g g' : Fin 8} (ht : t = t') (hg : g = g') (j : S1x4096.Idx) :
    grp (blockAt a V₀ c t) g j = grp (blockAt a V₀ c t') g' j := by subst ht hg; rfl

/-- After point `t` the rows written so far are final. -/
theorem leaves_out : ∀ (n : ℕ) (t : Fin grid0.N), t.val = n → ∀ X, (rdat a V₀ c).Leaves (96 : Fin 97) t X →
    ∀ i : S128x4096.Idx, ((i 0).val < 8 * (n + 1) ∧ (i 0).val < 96 ∨ n = 12) → X i = outc a V₀ c i := by
  intro n
  induction n with
  | zero =>
    intro t ht X ⟨Y, _, hX⟩ i hi
    have hW := (after_out a V₀ c t Y X).1 hX
    have hR := hW.1 (by omega)
    have h8 : (i 0).val < 8 := by omega
    refine (hR.at_row ⟨(i 0).val, h8⟩ i h8 (by rw [ht]; simp)).trans ?_
    rw [grp_update]; unfold outc; rw [dif_pos (by omega)]
    exact grp_at a V₀ c (Fin.ext (show t.val = (i 0).val / 8 by omega)) (Fin.ext (show (i 0).val = (i 0).val % 8 by omega)) _
  | succ n ih =>
    intro t ht X ⟨Y, hY, hX⟩ i hi
    have hW := (after_out a V₀ c t Y X).1 hX
    have hY' : (rdat a V₀ c).Leaves (96 : Fin 97) ⟨t.val - 1, Nat.lt_of_le_of_lt (Nat.sub_le _ _) t.isLt⟩ Y := by
      refine (((rdat a V₀ c).finds_of_pos (fetch_out a t) (by omega) Y).1 hY).resolve_left fun h => ?_
      have := congrArg Fin.val ((flush_out a _).1 h)
      have h2 : t.val - 1 = 12 := this
      have := t.isLt; have := N_0; omega
    have hprev := ih ⟨t.val - 1, Nat.lt_of_le_of_lt (Nat.sub_le _ _) t.isLt⟩ (by show t.val - 1 = n; omega) Y hY' i
    have hlt : (i 0).val < 128 := (i 0).isLt
    by_cases h12 : t.val < 12
    · have hR := hW.1 h12
      by_cases hb : (i 0).val < 8 * t.val
      · refine (hR.off_row i (.inl hb)).trans ?_
        rw [Function.update_self]; exact hprev (by omega)
      · refine (hR.at_row ⟨(i 0).val - 8 * t.val, by omega⟩ i (by show (i 0).val - 8 * t.val < 8; omega) (by show _ = 8 * t.val + ((i 0).val - 8 * t.val); omega)).trans ?_
        rw [grp_update]; unfold outc; rw [dif_pos (by omega)]
        exact grp_at a V₀ c (Fin.ext (show t.val = (i 0).val / 8 by omega))
          (Fin.ext (show (i 0).val - 8 * t.val = (i 0).val % 8 by omega)) _
    · have hR := hW.2 h12
      have h12' : t.val = 12 := by have := t.isLt; have := N_0; omega
      by_cases hb : (i 0).val < 96
      · refine (hR.off_row i (.inl hb)).trans ?_
        rw [Function.update_self]; exact hprev (by omega)
      · refine (hR.at_row ⟨(i 0).val - 96, by omega⟩ i (by show (i 0).val - 96 < 32; omega) (by show _ = 96 + ((i 0).val - 96); omega)).trans ?_
        rw [ys_update]; unfold outc; rw [dif_neg hb]
        rw [show t = tLast from Fin.ext h12']

/-- The arrays at the end: each input as at entry, the output at `outc`. -/
def arrOut : (w : Fin 97) → Buf (Elt F) ((win0 a w).arr.view.loc (c.tc : Thread nD τ)) :=
  Function.update (arrIn a V₀ c) (96 : Fin 97) (outc a V₀ c)

/-- What is written back at the last point is the whole output array. -/
theorem whole_out : (win0 a (96 : Fin 97)).WholeAt tLast :=
  ⟨(flush_out a _).2 rfl, fun t h => (flush_out a t).1 h, fun x => ⟨by fin_cases x <;> rfl, by fin_cases x <;> rfl⟩⟩

/-- WHAT THE RUN DETERMINES: every array can end only at `arrOut`. -/
theorem arrAt_eq (w : Fin 97) (G) (h : (rdat a V₀ c).ArrAt w (cfg0 a).N G) : G = arrOut a V₀ c w := by
  by_cases hw : w = (96 : Fin 97)
  · subst hw
    obtain ⟨X, hX, hG⟩ := Pipeline.RDat.ArrAt.emb_eq_of_wholeAt h (whole_out a)
    funext i
    refine (hG i).trans ?_
    refine (leaves_out a V₀ c 12 tLast rfl X hX i (.inr rfl)).trans ?_
    unfold arrOut; rw [Function.update_self]
  · rw [(rdat a V₀ c).ArrAt_in w (in_of_ne w hw)] at h
    exact h.trans (Function.update_of_ne hw _ (arrIn a V₀ c)).symm

end Data

end Cert.Kernel.Hand
-- ==== Proof.Range.lean ====
/-
  What the precondition says of the two index arrays: every entry of the first is below 128, every entry of the second
  below 264.
-/
module

public import proofs.«01_k».proof.Proof.Gen.Pre_in_range
public import Idealize.ShloMosaic.Lib.ReduceAll
public import Idealize.ShloMosaic.Lib.WordCmp

@[expose] public section

noncomputable section

namespace Cert.Range

open Idealize.ShloMosaic Cert.Pre_in_range

variable [Cert.Pre_in_range.Facts] {F : FTy → Type} [FloatOps F]

/-- One array's test, all its words folded by `and`: it is one only if every word is in the range. -/
theorem all_below {k : ℕ} (hk : k < 2 ^ 31) (x : IVec S416 32) (i : S_.Idx)
    (h : Host.reduce IntOp.andi (andi (cmpi .sge x (broadcastInDim S416 ![] Facts.bcast_S_S416 (constantI S_ 32 0#32)))
      (cmpi .slt x (broadcastInDim S416 ![] Facts.bcast_S_S416 (constantI S_ 32 (BitVec.ofNat 32 k))))) (constantI S_ 1 1#1)
      Facts.reducesTo_S416_S_d0 Facts.h_S_ i = 1#1) (j : S416.Idx) : (x j).toNat < k := by
  haveI : Subsingleton S_.Idx := ⟨fun a b => funext fun n => n.elim0⟩
  have hj := Host.reduce_andi_all _ _ _ _ i h j
  have e := WordCmp.andi_sge_zero_slt_ofNat (w := 32) hk (x j)
  have hj' : IntOp.andi (IntOp.cmpi .sge (x j) 0#32) (IntOp.cmpi .slt (x j) (BitVec.ofNat 32 k)) = 1#1 := hj
  rw [e] at hj'
  exact (WordCmp.ofBool_decide_eq_one_iff _).1 hj'

/-- The precondition, word by word. -/
theorem of_pre {x0 : FVec F S128x1x4096 .f32} {x1 x2 : IVec S416 32} {x3 : FVec F S264x4096x16 .f32} {x4 : FVec F S264x16x4096 .f32}
    (h : fn x0 x1 x2 x3 x4 = fun _ => 1#1) : (∀ j, (x1 j).toNat < 128) ∧ ∀ j, (x2 j).toNat < 264 := by
  have i : S_.Idx := fun a => a.elim0
  have h' := congrFun h i
  unfold fn at h'
  dsimp only at h'
  obtain ⟨h1, h2⟩ := IntOp.andi_eq_one.1 h'
  exact ⟨all_below (by decide) x1 i h1, all_below (by decide) x2 i h2⟩

end Cert.Range

end
-- ==== Proof.Tables.lean ====
/-
  The two prefetched tables of `Kernel`: with every entry of the first below 128 and of the second below 264, every window's
  block lies in its array at every point.
-/
module

public import proofs.«01_k».proof.Proof.Run
public import proofs.«01_k».proof.Proof.Range

@[expose] public section

set_option maxRecDepth 65536

noncomputable section

namespace Cert.Kernel.Hand

open Cert.Kernel Cert.Kernel.Gen Cert.Family
open Idealize.ShloMosaic Idealize.ShloMosaic.TcCoe

variable {F : FTy → Type} [FloatOps F]

/-- The table entry that triple `k` of point `i` reads. -/
def entry (i : grid0.Coords) (k : Fin 32) : S416.Idx :=
  (Rect.unit (s := S416) (k0_off1 i (BitVec.ofNat 32 k.val)) S1.size (k0_off1_inb i k)).point numel1_S1

/-- Triple `k` of point `i` is entry `32 i + k` of the tables. -/
theorem entry_val : ∀ (i : grid0.Coords) (k : Fin 32), (entry i k 0).val = 32 * (i 0).val + k.val := by
  intro i k
  have h : ∀ (n : Fin 13) (k : Fin 32), (Scalar.indexCast (Scalar.addi (Scalar.muli 32#32 (BitVec.ofNat 32 n.val)) (BitVec.ofNat 32 k.val)) : Index).toNat
      = 32 * n.val + k.val := by decide +kernel
  exact h (i 0) k

/-- A one-row block of the first array at row `f 0`. -/
theorem okx (f : Fin 3 → ℕ) (h0 : f 0 < 128) (h1 : f 1 = 0) (h2 : f 2 = 0) :
    ∃ h : (∀ a, (f a + 1) * S1x1x4096.size a ≤ S128x1x4096.size a), EltTy.bits .f32 = 32 ∨ (Rect.block (s := S128x1x4096) S1x1x4096.size f h).WholeWords (EltTy.packing .f32) :=
  ⟨fun a => by
    fin_cases a
    · show (f 0 + 1) * 1 ≤ 128; omega
    · show (f 1 + 1) * 1 ≤ 1; omega
    · show (f 2 + 1) * 4096 ≤ 4096; omega, .inl rfl⟩

/-- A sixteen-row block of either weight array at matrix `f 0`. -/
theorem okw (f : Fin 3 → ℕ) (h0 : f 0 < 264) (h1 : f 1 = 0) (h2 : f 2 = 0) :
    ∃ h : (∀ a, (f a + 1) * S1x16x4096.size a ≤ S264x16x4096.size a), EltTy.bits .f32 = 32 ∨ (Rect.block (s := S264x16x4096) S1x16x4096.size f h).WholeWords (EltTy.packing .f32) :=
  ⟨fun a => by
    fin_cases a
    · show (f 0 + 1) * 1 ≤ 264; omega
    · show (f 1 + 1) * 16 ≤ 16; omega
    · show (f 2 + 1) * 4096 ≤ 4096; omega, .inl rfl⟩

/-- Tables in range put every block inside its array. -/
theorem ok_of_range (pf : pre0.Contents (Elt F)) (hx : ∀ j : S416.Idx, BitVec.toNat (w := 32) (pf 0 j) < 128)
    (hw : ∀ j : S416.Idx, BitVec.toNat (w := 32) (pf 1 j) < 264) : ok0 pf := by
  unfold ok0
  repeat' apply And.intro
  all_goals first
    | exact fun i => okx _ (hx _) rfl rfl
    | exact fun i => okw _ (hw _) rfl rfl

end Cert.Kernel.Hand

end
-- ==== Proof.Launch.lean ====
/-
  A run of `Kernel` from tables in range: every argument ends as it was, the result is the output array read as its
  reshape, every counter ends at zero.
-/
module

public import proofs.«01_k».proof.Proof.Tables

@[expose] public section

set_option maxRecDepth 65536

noncomputable section

namespace Cert.Kernel.Hand

open Cert.Kernel Cert.Kernel.Gen Cert.Family
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ (UR sig nD τ) ℕ

/-- The buffers as the region finds them: `m`'s, the first weight array transposed. -/
def entryVal (m : (ℓ : Loc nD τ sig) → Buf (Elt F) ℓ) (c : Dev nD) : Valuation τ sig (Elt F) :=
  fun b => StableHlo.after hostOps0 (fun b => m (c, b)) b

/-- The host operation before the region changes no buffer but its own result. -/
theorem entryVal_kept (m : (ℓ : Loc nD τ sig) → Buf (Elt F) ℓ) (c : Dev nD) (b : Ref sig .tc) (h : b ≠ main_v0) :
    entryVal m c (Proc.devRef .tc b) = m ((c.tc : Thread nD τ).loc b) := by
  unfold entryVal
  rw [StableHlo.after_cons, StableHlo.after_nil]
  exact StableHlo.unary_result_ne _ _ _ _ _ _ h

/-- Before the region, that result is the first weight array with its last two axes exchanged. -/
theorem entryVal_transposed (m : (ℓ : Loc nD τ sig) → Buf (Elt F) ℓ) (c : Dev nD) :
    entryVal m c (Proc.devRef .tc main_v0)
      = transpose S264x16x4096 [0, 2, 1] (m ((c.tc : Thread nD τ).loc main_arg3)) transposes_S264x4096x16_S264x16x4096_0_2_1 := by
  unfold entryVal
  rw [StableHlo.after_cons, StableHlo.after_nil]
  exact StableHlo.unary_result _ _ _ _ _ _

/-- The tables' contents at entry. -/
def tables (m : (ℓ : Loc nD τ sig) → Buf (Elt F) ℓ) : pre0.Contents (Elt F) := fun k => entryVal m 0 (Proc.devRef .tc (pre0.ref k))

variable (m : (ℓ : Loc nD τ sig) → Buf (Elt F) ℓ) (hok : ok0 (tables m))

/-- Admissible tables. -/
abbrev adm : (pcfg0 (F := F)).Adm := ⟨tables m, hok⟩

/-- The result: the output array's elements at the result's shape. -/
def result (c : Dev nD) : Buf (Elt F) ((c.tc : Thread nD τ).loc main_v2) :=
  shapeCast S128x1x4096 (outc (adm m hok) (entryVal m) c) shapeCasts_S128x4096_S128x1x4096

/-- The program's result is no array of the region. -/
theorem rest_result : main_v2 ∈ Pipeline.restRefsP sig pre0 spec0 := by decide

/-- The first weight array itself is no array of the region: the region reads its transpose. -/
theorem rest_arg3 : main_arg3 ∈ Pipeline.restRefsP sig pre0 spec0 := by decide

/-- No input window reads the output's array. -/
theorem arr_ne_out : ∀ w : Fin 97, w ≠ 96 → Pipeline.arrRef spec0 w ≠ Pipeline.arrRef spec0 96 := by decide

/-- THE RUN: every execution ends with the result in its buffer, the arguments as they were and every counter at zero. -/
theorem run (g : Dev nD → PrngReg) :
    θ_run (defs (F := F)) (onTc (τ := τ) (main (F := F))) ⟨m, fun _ => 0, g⟩ (fun r =>
      (∀ c : Dev nD, r.2.mem ((c.tc : Thread nD τ).loc main_v2) = result m hok c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  refine Cert.Tail.run_determined (pcfgs (F := F)) (fun _ => adm m hok) (fun _ c => rdat (adm m hok) (entryVal m) c) 0 launch₀0 defs₀
    Variants.none m g main (body_obligation (adm m hok) (entryVal m)) (fun _ _ _ => rfl) (fun _ _ => rfl) (entryVal m) [hostOps1]
    ?hsub ?hfresh ?hkeep ?hmain (fun _ _ => rfl) ?hpf (fun _ => .rfl) ?hout (arrOut (adm m hok) (entryVal m))
    (arrAt_eq (adm m hok) (entryVal m)) _ ?hQ
  case hsub =>
    intro ops ho op h
    obtain rfl := List.mem_singleton.1 ho
    obtain rfl := List.mem_singleton.1 h
    intro b hb
    have hb' : b = Proc.devRef .tc main_v1 ∨ b = Proc.devRef .tc main_v2 := by
      simpa using (show b ∈ ({Proc.devRef .tc main_v1, Proc.devRef .tc main_v2} : Finset (DevRef τ sig)) from hb)
    refine Finset.mem_map.2 ?_
    rcases hb' with rfl | rfl
    · exact ⟨main_v1, Finset.mem_union_left _ (Finset.mem_image.2 ⟨(96 : Fin 97), Finset.mem_univ _, rfl⟩), rfl⟩
    · exact ⟨main_v2, Finset.mem_union_right _ rest_result, rfl⟩
  case hfresh =>
    intro ops ho op h
    obtain rfl := List.mem_singleton.1 ho
    obtain rfl := List.mem_singleton.1 h
    rfl
  case hkeep =>
    intro ops ho op h w hw
    obtain rfl := List.mem_singleton.1 ho
    obtain rfl := List.mem_singleton.1 h
    have e := Proc.devRef_injective _ (Finset.mem_singleton.1 hw)
    exact absurd e ((by decide : ∀ w : Fin 97, Pipeline.arrRef spec0 w ≠ main_v2) w)
  case hmain =>
    exact Pipeline.hmainP_around pcfgs 0 defs₀ Variants.none m main [hostOps0] [hostOps1] (by exact hostOps0_sub) (by exact rfl)
      (fun c => main_chain c)
  case hpf => intro c k; obtain rfl := Subsingleton.elim c 0; rfl
  case hout =>
    intro c
    show (iprop(Pipeline.ΦA spec0 c ∗ Pipeline.ΦT pre0 (tables m) c) : sProp 𝕄) ⊢ Pipeline.ΦA spec0 c
    iintro ⟨H, -⟩; iexact H
  case hQ =>
    intro s h hz
    refine ⟨fun c => ?_, hz⟩
    obtain ⟨hw, ht, hr⟩ := h c
    have hin : ∀ (w : Fin 97) (hne : w ≠ 96), Pipeline.arrRef spec0 w ≠ main_v0 →
        s.mem ((spec0 w).arr.view.loc (c.tc : Thread nD τ)) = m ((c.tc : Thread nD τ).loc (Pipeline.arrRef spec0 w)) := fun w hne h0 =>
      (hw w).trans ((Function.update_of_ne hne _ (arrIn (adm m hok) (entryVal m) c)).trans (entryVal_kept m c _ h0))
    obtain rfl := Subsingleton.elim c 0
    refine ⟨?_, hin 0 (by decide) (by decide), (ht 0).trans (entryVal_kept m 0 main_arg1 (by decide)),
      (ht 1).trans (entryVal_kept m 0 main_arg2 (by decide)), ?_, hin 64 (by decide) (by decide)⟩
    · refine (hr main_v2 rest_result).trans ?_
      unfold Cert.Tail.afterLines
      rw [List.flatten_cons, List.flatten_nil, List.append_nil, StableHlo.after_cons, StableHlo.after_nil]
      refine (StableHlo.reshape_result _ _ _ _ _ _ _).trans ?_
      unfold result
      refine congrArg (fun x => shapeCast S128x1x4096 x shapeCasts_S128x4096_S128x1x4096) ?_
      refine (Pipeline.withArrays_arr_shared spec0 0 (entryVal m 0) (arrOut (adm m hok) (entryVal m) 0) (fun w w' hne he => ?_) 96).trans ?_
      · by_cases h : w = (96 : Fin 97)
        · subst h; exact absurd he.symm (arr_ne_out w' (Ne.symm hne))
        · exact Function.update_of_ne h _ (arrIn (adm m hok) (entryVal m) 0)
      · exact Function.update_self (f := arrIn (adm m hok) (entryVal m) 0) (96 : Fin 97) _
    · refine (hr main_arg3 rest_arg3).trans ?_
      unfold Cert.Tail.afterLines
      rw [List.flatten_cons, List.flatten_nil, List.append_nil, StableHlo.after_cons, StableHlo.after_nil]
      refine (StableHlo.reshape_result_ne _ _ _ _ _ _ _ (by decide)).trans ?_
      refine (Pipeline.withArrays_of_ne spec0 0 (entryVal m 0) _ main_arg3 (by decide)).trans ?_
      exact entryVal_kept m 0 main_arg3 (by decide)

end Cert.Kernel.Hand

end
-- ==== Proof.Same.lean ====
/-
  `KernelIdeal` is `Kernel`'s own text: the two programs are equal, so a run of the one is a run of the other.
-/
module

public import proofs.«01_k».proof.Proof.Launch
public import proofs.«01_k».proof.Proof.Gen.KernelIdeal.Launch
public import Idealize.ShloMosaic.Lib.Tactic

@[expose] public section

set_option maxRecDepth 65536

noncomputable section

namespace Cert.Same

open Idealize.ShloMosaic Idealize.ShloMosaic.TcCoe Idealize.SL.Sem

variable {F : FTy → Type} [FloatOps F]

/-- From one memory the two programs have the same runs. -/
theorem same_run (m : (ℓ : Loc Cert.KernelIdeal.nD Cert.KernelIdeal.τ Cert.KernelIdeal.sig) → Buf (Elt F) ℓ) (g : Dev Cert.KernelIdeal.nD → PrngReg)
    (Q : PUnit × MemSt Cert.KernelIdeal.nD Cert.KernelIdeal.τ Cert.KernelIdeal.sig (Elt F) → Prop) :
    θ_run (Cert.KernelIdeal.defs (F := F)) (onTc (τ := Cert.KernelIdeal.τ) (Cert.KernelIdeal.main (F := F))) ⟨m, fun _ => 0, g⟩ Q
      = θ_run (Cert.Kernel.defs (F := F)) (onTc (τ := Cert.Kernel.τ) (Cert.Kernel.main (F := F))) ⟨m, fun _ => 0, g⟩ Q := by
  sl_kernel_rfl

end Cert.Same

end
-- ==== Proof.Blocks.lean ====
/-
  What the blocks of `Kernel` hold at a point: triple `k` is the row of the first array and the matrices of the two weight
  arrays that the tables' entries for that triple name.
-/
module

public import proofs.«01_k».proof.Proof.Tables
public import Idealize.ShloMosaic.Lib.Pointwise

@[expose] public section

set_option maxRecDepth 65536

noncomputable section

namespace Cert.Kernel.Hand

open Cert.Kernel Cert.Kernel.Gen Cert.Family
open Idealize.ShloMosaic Idealize.ShloMosaic.TcCoe

variable {F : FTy → Type} [FloatOps F]

/-- An index of a three-axis array is made of its coordinates. -/
theorem ext3 (N A B : ℕ) {i : (⟨3, ![N, A, B]⟩ : Shape).Idx} {p : Fin N} {q : Fin A} {r : Fin B} (h0 : (i 0).val = p.val) (h1 : (i 1).val = q.val)
    (h2 : (i 2).val = r.val) : i = ix3 p q r := by
  funext a
  refine Fin.ext ?_
  match a with
  | ⟨0, _⟩ => exact h0
  | ⟨1, _⟩ => exact h1
  | ⟨2, _⟩ => exact h2

/-- Where the one entry of an axis cut into single slabs stands. -/
theorem at_slab (n : ℕ) (z : Fin 1) : n * 1 + 1 * z.val = n := by omega

/-- Where an entry of an uncut axis stands. -/
theorem at_zero (A n : ℕ) : 0 * A + 1 * n = n := by omega

variable (a : (pcfg0 (F := F)).Adm) (V₀ : Dev nD → Valuation τ sig (Elt F)) (c : Dev nD)
variable (hx : ∀ j : S416.Idx, BitVec.toNat (w := 32) (a.1 0 j) < 128) (hw : ∀ j : S416.Idx, BitVec.toNat (w := 32) (a.1 1 j) < 264)

/-- The row of the first array that entry `j` of the first table names. -/
abbrev xrow (j : S416.Idx) : S1x1x4096.Idx → Elt F .f32 := fun y =>
  (V₀ c (Proc.devRef .tc main_arg0) : S128x1x4096.Idx → Elt F .f32) (ix3 (⟨BitVec.toNat (w := 32) (a.1 0 j), hx j⟩ : Fin 128) (y 1 : Fin 1) (y 2 : Fin 4096))

/-- The transposed first weight matrix that entry `j` of the second table names. -/
abbrev amat (j : S416.Idx) : S1x16x4096.Idx → Elt F .f32 := fun y =>
  (V₀ c (Proc.devRef .tc main_v0) : S264x16x4096.Idx → Elt F .f32) (ix3 (⟨BitVec.toNat (w := 32) (a.1 1 j), hw j⟩ : Fin 264) (y 1 : Fin 16) (y 2 : Fin 4096))

/-- The second weight matrix that entry `j` of the second table names. -/
abbrev bmat (j : S416.Idx) : S1x16x4096.Idx → Elt F .f32 := fun y =>
  (V₀ c (Proc.devRef .tc main_arg4) : S264x16x4096.Idx → Elt F .f32) (ix3 (⟨BitVec.toNat (w := 32) (a.1 1 j), hw j⟩ : Fin 264) (y 1 : Fin 16) (y 2 : Fin 4096))

/-- The row of triple `k` at point `t`, from the arrays. -/
theorem ys_blocks (t : Fin grid0.N) (k : Fin 32) : ys (blockAt a V₀ c t) k
    = row (xrow a V₀ c hx (entry (grid0.coords t) k)) (amat a V₀ c hw (entry (grid0.coords t) k)) (bmat a V₀ c hw (entry (grid0.coords t) k)) := by
  have arr3 : ∀ {x x' : S1x1x4096.Idx → Elt F .f32} {p p' q q' : S1x16x4096.Idx → Elt F .f32}, (∀ y, x y = x' y) → (∀ y, p y = p' y) → (∀ y, q y = q' y) →
      row x p q = row x' p' q' := by
    intro x x' p p' q q' h1 h2 h3
    obtain rfl := funext h1
    obtain rfl := funext h2
    obtain rfl := funext h3
    rfl
  fin_cases k
  all_goals
    refine arr3 (fun y => congrArg (V₀ c (Proc.devRef .tc main_arg0)) ?_) (fun y => congrArg (V₀ c (Proc.devRef .tc main_v0)) ?_)
      (fun y => congrArg (V₀ c (Proc.devRef .tc main_arg4)) ?_)
    · refine ext3 128 1 4096 ?_ ?_ ?_
      exacts [at_slab _ (y 0), at_zero _ _, at_zero _ _]
    all_goals
      refine ext3 264 16 4096 ?_ ?_ ?_
      exacts [at_slab _ (y 0), at_zero _ _, at_zero _ _]

end Cert.Kernel.Hand

end
-- ==== Proof.Slab.lean ====
/-
  What a gather of whole slabs reads, at any sizes.
-/
module

public import Idealize.ShloMosaic.Lib.ValueIdx
public import Idealize.ShloMosaic.Lib.Pointwise
public import Idealize.ShloMosaic.Lib.ReduceAll
public import Idealize.ShloMosaic.Lib.WordCmp

@[expose] public section

noncomputable section

namespace Cert.Slab

open Idealize.ShloMosaic

variable {α : Type} {N A B n : ℕ}

/-- The dimension numbers of a gather that reads, for each of `n` index words, the `A`-by-`B` slab that the word names. -/
abbrev slabDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Entry `(k, a, b)` of the gather is entry `(a, b)` of the slab that word `k` names, when that slab exists. -/
theorem gather_slab (wf) (x : (⟨3, ![N, A, B]⟩ : Shape).Idx → α) (idx : IVec ⟨2, ![n, 1]⟩ 32) (k : Fin n) (a : Fin A) (b : Fin B)
    (r : Fin N) (hr : (idx (ix2 k (0 : Fin 1))).toInt.toNat = r.val) :
    Host.gather (slabDims N A B n wf) x idx (ix3 k a b) = x (ix3 r a b) := by
  have hstart : (slabDims N A B n wf).start (ix3 k a b) idx 0 = r.val := by
    have hsi : (slabDims N A B n wf).siIdx (ix3 k a b) ⟨0, Nat.one_pos⟩ = ix2 k (0 : Fin 1) := by
      funext c
      match c with
      | ⟨0, _⟩ => rfl
      | ⟨1, _⟩ => rfl
    show min (idx ((slabDims N A B n wf).siIdx (ix3 k a b) ⟨0, Nat.one_pos⟩)).toInt.toNat (N - 1) = r.val
    rw [hsi, hr]
    have := r.isLt
    omega
  refine congrArg x (funext fun c => Fin.ext ?_)
  match c with
  | ⟨0, _⟩ => exact hstart
  | ⟨1, _⟩ => exact Nat.zero_add a.val
  | ⟨2, _⟩ => exact Nat.zero_add b.val

end Cert.Slab

end
-- ==== Proof.RefValue.lean ====
/-
  The reference's result over the extended reals, element by element, from index words in range.
-/
module

public import proofs.«01_k».proof.Proof.Gen.ReferenceIdeal.Run
public import proofs.«01_k».proof.Proof.Slab

@[expose] public section

set_option maxRecDepth 16384

noncomputable section

namespace Cert.RefValue

open Idealize.ShloMosaic Idealize.ShloMosaic.TcCoe Cert.ReferenceIdeal Cert.ReferenceIdeal.Gen

/-! ## The taken slabs -/

/-- The index words as the reference reads them: a negative word has the number of slabs added. -/
def wrapped (n : BitVec 32) (v : IVec S416 32) : IVec S416x1 32 :=
  broadcastInDim S416x1 ![0] bcast_S416_S416x1_0 (select (cmpi .slt v (broadcastInDim S416 ![] bcast_S_S416 (constantI S_ 32 0#32)))
    (addi v (broadcastInDim S416 ![] bcast_S_S416 (constantI S_ 32 n))) v)

/-- Which words lie between zero and `hi`. -/
def inside (hi : BitVec 32) (W : IVec S416x1 32) : IVec S416 1 :=
  Host.reduce IntOp.andi (andi (cmpi .sge W (broadcastInDim S416x1 ![] bcast_S_S416x1 (constantI S_ 32 0#32)))
    (cmpi .sle W (broadcastInDim S416x1 ![0, 1] bcast_S1x1_S416x1_0_1 (broadcastInDim S1x1 ![1] bcast_S1_S1x1_1 (constantI S1 32 hi)))))
    (constantI S_ 1 1#1) reducesTo_S416x1_S416_d1 h_S_

/-- The rows of the first array that the words name. -/
def takenX (x : FVec Ideal S128x1x4096 .f32) (v : IVec S416 32) : FVec Ideal S416x1x4096 .f32 :=
  select (broadcastInDim S416x1x4096 ![0] bcast_S416_S416x1x4096_0 (inside 127#32 (wrapped 128#32 v)))
    (Host.gather gather_S128x1x4096_S416x1_S416x1x4096_12_0_n_n_0_1_114096 x (wrapped 128#32 v))
    (broadcastInDim S416x1x4096 ![] bcast_S_S416x1x4096 (constant S_ .f32 0x7FC00000#32))

/-- The first weight matrices that the words name. -/
def takenA (x : FVec Ideal S264x4096x16 .f32) (v : IVec S416 32) : FVec Ideal S416x4096x16 .f32 :=
  select (broadcastInDim S416x4096x16 ![0] bcast_S416_S416x4096x16_0 (inside 263#32 (wrapped 264#32 v)))
    (Host.gather gather_S264x4096x16_S416x1_S416x4096x16_12_0_n_n_0_1_1409616 x (wrapped 264#32 v))
    (broadcastInDim S416x4096x16 ![] bcast_S_S416x4096x16 (constant S_ .f32 0x7FC00000#32))

/-- The second weight matrices that the words name. -/
def takenB (x : FVec Ideal S264x16x4096 .f32) (v : IVec S416 32) : FVec Ideal S416x16x4096 .f32 :=
  select (broadcastInDim S416x16x4096 ![0] bcast_S416_S416x16x4096_0 (inside 263#32 (wrapped 264#32 v)))
    (Host.gather gather_S264x16x4096_S416x1_S416x16x4096_12_0_n_n_0_1_1164096 x (wrapped 264#32 v))
    (broadcastInDim S416x16x4096 ![] bcast_S_S416x16x4096 (constant S_ .f32 0x7FC00000#32))

/-- A word below `2 ^ 31` is read as it is. -/
theorem wrapped_at (n : BitVec 32) (v : IVec S416 32) (k : Fin 416) (h : (v (ix1 k)).toNat < 2 ^ 31) : wrapped n v (ix2 k (0 : Fin 1)) = v (ix1 k) := by
  unfold wrapped
  pointwise
  rw [WordCmp.cmpi_slt_zero, decide_eq_false (by omega)]
  rfl

/-- Words that are all at most `hi` all pass the test. -/
theorem inside_at {hi : ℕ} (hhi : hi < 2 ^ 31) (W : IVec S416x1 32) (h : ∀ k, (W (ix2 k (0 : Fin 1))).toNat ≤ hi) (j : S416.Idx) :
    inside (BitVec.ofNat 32 hi) W j = 1#1 := by
  refine Host.reduce_andi_one _ (constantI S_ 1 1#1) _ _ j rfl fun i => ?_
  idx_vars i
  obtain rfl := Subsingleton.elim i1 0
  have hk := h i0
  pointwise
  rw [WordCmp.cmpi_sge_zero, WordCmp.cmpi_sle_of_lt (by omega) (by rw [WordCmp.toNat_ofNat_of_lt (by omega)]; omega),
    WordCmp.toNat_ofNat_of_lt (by omega), decide_eq_true (by omega), decide_eq_true (by omega)]
  rfl

/-- A word below `2 ^ 31` reads the same signed and unsigned. -/
theorem toInt_of_word {x y : BitVec 32} (e : x = y) (h : y.toNat < 2 ^ 31) : x.toInt.toNat = y.toNat := by
  subst e
  rw [WordCmp.toInt_eq_toNat_of_lt_half (by omega)]
  rfl

/-- A weight index in range is left as it is. -/
theorem wrapped_weights (v : IVec S416 32) (hv : ∀ j, (v j).toNat < 264) (k : Fin 416) : wrapped 264#32 v (ix2 k (0 : Fin 1)) = v (ix1 k) :=
  wrapped_at _ v k ((hv _).trans (by decide))

/-- Weight indices in range all pass the check of the range. -/
theorem inside_weights (v : IVec S416 32) (hv : ∀ j, (v j).toNat < 264) : inside 263#32 (wrapped 264#32 v) = fun _ => 1#1 :=
  funext fun j => inside_at (by decide) _ (fun k => by rw [wrapped_weights v hv]; have := hv (ix1 k); omega) j

variable (v : IVec S416 32)

/-- Slab `k` of the taken rows is the row that word `k` names. -/
theorem takenX_at (x : FVec Ideal S128x1x4096 .f32) (hv : ∀ j, (v j).toNat < 128) (k : Fin 416) (d : Fin 4096) :
    takenX x v (ix3 k (0 : Fin 1) d) = x (ix3 (⟨(v (ix1 k)).toNat, hv _⟩ : Fin 128) (0 : Fin 1) d) := by
  have hw : ∀ k, wrapped 128#32 v (ix2 k (0 : Fin 1)) = v (ix1 k) := fun k => wrapped_at _ v k ((hv _).trans (by decide))
  have hm : inside 127#32 (wrapped 128#32 v) = fun _ => 1#1 := funext fun j => inside_at (by decide) _ (fun k => by rw [hw]; have := hv (ix1 k); omega) j
  unfold takenX
  rw [hm, ValueIdx.select_apply]
  refine (ValueIdx.select_one _ _).trans ?_
  exact Slab.gather_slab _ x _ k 0 d _ (toInt_of_word (hw k) ((hv _).trans (by decide)))

/-- Slab `k` taken of the first weights is the matrix that word `k` names. -/
theorem takenA_at (x : FVec Ideal S264x4096x16 .f32) (hv : ∀ j, (v j).toNat < 264) (k : Fin 416) (d : Fin 4096) (r : Fin 16) :
    takenA x v (ix3 k d r) = x (ix3 (⟨(v (ix1 k)).toNat, hv _⟩ : Fin 264) d r) := by
  unfold takenA
  rw [inside_weights v hv, ValueIdx.select_apply]
  refine (ValueIdx.select_one _ _).trans ?_
  exact Slab.gather_slab _ x _ k d r _ (toInt_of_word (wrapped_weights v hv k) ((hv _).trans (by decide)))

/-- Slab `k` taken of the second weights is the matrix that word `k` names. -/
theorem takenB_at (x : FVec Ideal S264x16x4096 .f32) (hv : ∀ j, (v j).toNat < 264) (k : Fin 416) (r : Fin 16) (d : Fin 4096) :
    takenB x v (ix3 k r d) = x (ix3 (⟨(v (ix1 k)).toNat, hv _⟩ : Fin 264) r d) := by
  unfold takenB
  rw [inside_weights v hv, ValueIdx.select_apply]
  refine (ValueIdx.select_one _ _).trans ?_
  exact Slab.gather_slab _ x _ k r d _ (toInt_of_word (wrapped_weights v hv k) ((hv _).trans (by decide)))

/-! ## The products and the result -/

/-- The 416 products, doubled. -/
def products (xg : FVec Ideal S416x1x4096 .f32) (ag : FVec Ideal S416x4096x16 .f32) (bg : FVec Ideal S416x16x4096 .f32) : FVec Ideal S416x1x4096 .f32 :=
  mulf (Host.dotGeneral dot_S416x1x16_S416x16x4096_S416x1x4096_2_1_1_2_0_0 none
      (Host.dotGeneral dot_S416x1x4096_S416x4096x16_S416x1x16_2_1_1_2_0_0 none xg ag) bg)
    (broadcastInDim S416x1x4096 ![] bcast_S_S416x1x4096 (constant S_ .f32 0x40000000#32))

/-- The 128 result rows: the first 384 products by fours, the last 32 as they are. -/
def collected (Y : FVec Ideal S416x1x4096 .f32) : FVec Ideal S128x1x4096 .f32 :=
  concatenate S128x1x4096 0 [⟨S96x1x4096, (Host.reduceAdd (shapeCast S96x4x1x4096 (extractStridedSlice S384x1x4096 ![0, 0, 0] Y slices_S416x1x4096_S384x1x4096_0_0_0)
      shapeCasts_S384x1x4096_S96x4x1x4096) (constant S_ .f32 0x00000000#32) reducesTo_S96x4x1x4096_S96x1x4096_d1 h_S_)⟩,
    ⟨S32x1x4096, (extractStridedSlice S32x1x4096 ![384, 0, 0] Y slices_S416x1x4096_S32x1x4096_384_0_0)⟩] concatenates_S96x1x4096_S32x1x4096_S128x1x4096_d0

/-- The generated result term, by these names. -/
theorem res_eq (m : (ℓ : Loc nD τ sig) → Buf (Elt Ideal) ℓ) (c : Dev nD) :
    Value.res_out0 m c = collected (products (takenX (m ((c.tc : Thread nD τ).loc main_arg0)) (m ((c.tc : Thread nD τ).loc main_arg1)))
      (takenA (m ((c.tc : Thread nD τ).loc main_arg3)) (m ((c.tc : Thread nD τ).loc main_arg2)))
      (takenB (m ((c.tc : Thread nD τ).loc main_arg4)) (m ((c.tc : Thread nD τ).loc main_arg2)))) := rfl

/-- An entry of product `k`: the row by the first matrix, by the second, doubled. -/
theorem products_at (xg : FVec Ideal S416x1x4096 .f32) (ag : FVec Ideal S416x4096x16 .f32) (bg : FVec Ideal S416x16x4096 .f32) (k : Fin 416) (j : Fin 4096) :
    products xg ag bg (ix3 k (0 : Fin 1) j) = (∑ r : Fin 16, (∑ d : Fin 4096, xg (ix3 k (0 : Fin 1) d) * ag (ix3 k d r)) * bg (ix3 k r j)) * Ideal.ofBits .f32 0x40000000#32 := by
  unfold products
  pointwise

/-- Below row 96, a result row is the sum of four successive products. -/
theorem collected_low (Y : FVec Ideal S416x1x4096 .f32) (R : Fin 128) (h : R.val < 96) (j : Fin 4096) :
    collected Y (ix3 R (0 : Fin 1) j) = ∑ q : Fin 4, Y (ix3 (⟨R.val * 4 + q.val, by omega⟩ : Fin 416) (0 : Fin 1) j) := by
  unfold collected
  pointwise
  rw [dif_pos h]

/-- From row 96 on, a result row is one product. -/
theorem collected_high (Y : FVec Ideal S416x1x4096 .f32) (R : Fin 128) (h : ¬R.val < 96) (j : Fin 4096) :
    collected Y (ix3 R (0 : Fin 1) j) = Y (ix3 (⟨384 + (R.val - 96), by omega⟩ : Fin 416) (0 : Fin 1) j) := by
  unfold collected
  pointwise
  rw [dif_neg h]

end Cert.RefValue

end
-- ==== Proof.Value.lean ====
/-
  Over the extended reals the output array of `Kernel`, as its result reads it, is the reference's result.
-/
module

public import proofs.«01_k».proof.Proof.Blocks
public import proofs.«01_k».proof.Proof.Launch
public import proofs.«01_k».proof.Proof.RefValue

@[expose] public section

set_option maxRecDepth 65536

noncomputable section

namespace Cert.Value

open Cert.Kernel Cert.Kernel.Gen Cert.Kernel.Hand
open Idealize.ShloMosaic Idealize.ShloMosaic.TcCoe

/-- The factor two. -/
abbrev two : EReal := Ideal.ofBits .f32 0x40000000#32

/-- Its word is the real number two. -/
theorem two_eq : two = ((2 : ℝ) : EReal) := by
  simp [Ideal.ofBits, Ideal.ieee, -EReal.coe_mul]; norm_num

/-- Doubling every term of a sum doubles the sum. -/
theorem double_sum {ι : Type} (s : Finset ι) (f : ι → EReal) : ∑ r ∈ s, f r * two = (∑ r ∈ s, f r) * two := by
  classical
  refine Finset.induction_on s ?_ fun a s ha ih => ?_
  · simp
  · rw [Finset.sum_insert ha, Finset.sum_insert ha, ih, EReal.right_distrib_of_nonneg_of_ne_top]
    · rw [two_eq]; exact_mod_cast (by norm_num : (0 : ℝ) ≤ 2)
    · rw [two_eq]; exact EReal.coe_ne_top 2

/-- A row of the kernel, entry by entry. -/
theorem row_at (x : FVec Ideal S1x1x4096 .f32) (a b : FVec Ideal S1x16x4096 .f32) (j : Fin 4096) :
    (row (F := Ideal) x a b (ix2 (0 : Fin 1) j) : EReal)
      = (∑ r : Fin 16, (∑ d : Fin 4096, x (ix3 (0 : Fin 1) (0 : Fin 1) d) * a (ix3 (0 : Fin 1) r d)) * b (ix3 (0 : Fin 1) r j)) * two := by
  rw [← double_sum]
  pointwise [row, k0_pay37]
  refine Finset.sum_congr rfl fun r _ => ?_
  rw [Finset.sum_congr rfl fun d _ => mul_comm (a (ix3 (0 : Fin 1) r d)) (x (ix3 (0 : Fin 1) (0 : Fin 1) d))]
  rw [mul_assoc, mul_assoc, mul_comm (b _)]

/-- Entry `j` of a product of the chosen row `p` and matrices `q`, doubled. -/
def term (x : FVec Ideal S128x1x4096 .f32) (A : FVec Ideal S264x4096x16 .f32) (B : FVec Ideal S264x16x4096 .f32) (p : Fin 128) (q : Fin 264)
    (j : Fin 4096) : EReal :=
  (∑ r : Fin 16, (∑ d : Fin 4096, x (ix3 p (0 : Fin 1) d) * A (ix3 q d r)) * B (ix3 q r j)) * two

variable (m : (ℓ : Loc nD τ sig) → Buf (Elt Ideal) ℓ)

/-- The rows to choose from. -/
abbrev argX : FVec Ideal S128x1x4096 .f32 := m (((0 : Dev nD).tc : Thread nD τ).loc main_arg0)
/-- The words that choose rows. -/
abbrev xids : IVec S416 32 := m (((0 : Dev nD).tc : Thread nD τ).loc main_arg1)
/-- The words that choose weights. -/
abbrev wids : IVec S416 32 := m (((0 : Dev nD).tc : Thread nD τ).loc main_arg2)
/-- The first weights. -/
abbrev argA : FVec Ideal S264x4096x16 .f32 := m (((0 : Dev nD).tc : Thread nD τ).loc main_arg3)
/-- The second weights. -/
abbrev argB : FVec Ideal S264x16x4096 .f32 := m (((0 : Dev nD).tc : Thread nD τ).loc main_arg4)

variable (hx : ∀ j, (xids m j).toNat < 128) (hw : ∀ j, (wids m j).toNat < 264)

/-- The product of triple `n`. -/
def prod (n : Fin 416) (j : Fin 4096) : EReal :=
  term (argX m) (argA m) (argB m) ⟨(xids m (ix1 n)).toNat, hx _⟩ ⟨(wids m (ix1 n)).toNat, hw _⟩ j

/-! ## The reference -/

open Cert.RefValue in
/-- The reference's product `n` is the product of triple `n`. -/
theorem ref_product (n : Fin 416) (j : Fin 4096) :
    products (takenX (argX m) (xids m)) (takenA (argA m) (wids m)) (takenB (argB m) (wids m)) (ix3 n (0 : Fin 1) j) = prod m hx hw n j := by
  rw [products_at]
  unfold prod term
  simp only [takenX_at _ _ hx, takenA_at _ _ hw, takenB_at _ _ hw]

/-! ## The kernel -/

variable (hok : ok0 (tables m))

/-- A point's only coordinate is its number. -/
theorem coords_val : ∀ t : Fin grid0.N, ((grid0.coords t) 0).val = t.val := by decide

/-- Triple `k` of point `t` is triple `32 t + k` of all. -/
theorem entry_eq (t : Fin grid0.N) (k : Fin 32) (n : Fin 416) (h : n.val = 32 * t.val + k.val) : entry (grid0.coords t) k = ix1 n := by
  funext a
  obtain rfl := Subsingleton.elim a 0
  refine Fin.ext ?_
  rw [entry_val, coords_val]
  exact h.symm

/-- The region reads the row words of the arguments. -/
theorem tables_x : (tables m 0 : IVec S416 32) = xids m := entryVal_kept m 0 main_arg1 (by decide)

/-- The region reads the weight words of the arguments. -/
theorem tables_w : (tables m 1 : IVec S416 32) = wids m := entryVal_kept m 0 main_arg2 (by decide)

/-- Row entries of triple `k` at point `t`. -/
theorem ys_value (t : Fin grid0.N) (k : Fin 32) (n : Fin 416) (h : n.val = 32 * t.val + k.val) (j : Fin 4096) :
    (ys (blockAt (adm m hok) (entryVal m) 0 t) k (col j) : EReal) = prod m hx hw n j := by
  have hx' : ∀ j : S416.Idx, BitVec.toNat (w := 32) (tables m 0 j) < 128 := fun j => by rw [show (tables m 0 : IVec S416 32) = _ from tables_x m]; exact hx j
  have hw' : ∀ j : S416.Idx, BitVec.toNat (w := 32) (tables m 1 j) < 264 := fun j => by rw [show (tables m 1 : IVec S416 32) = _ from tables_w m]; exact hw j
  rw [ys_blocks (adm m hok) (entryVal m) 0 hx' hw' t k, entry_eq t k n h]
  have hc : col j = ix2 (0 : Fin 1) j := by
    funext a
    match a with
    | ⟨0, _⟩ => rfl
    | ⟨1, _⟩ => rfl
  rw [hc]
  refine (row_at _ _ _ j).trans ?_
  have ex : (⟨BitVec.toNat (w := 32) (tables m 0 (ix1 n)), hx' _⟩ : Fin 128) = ⟨(xids m (ix1 n)).toNat, hx _⟩ :=
    Fin.ext (congrArg BitVec.toNat (congrFun (tables_x m) (ix1 n)))
  have ew : (⟨BitVec.toNat (w := 32) (tables m 1 (ix1 n)), hw' _⟩ : Fin 264) = ⟨(wids m (ix1 n)).toNat, hw _⟩ :=
    Fin.ext (congrArg BitVec.toNat (congrFun (tables_w m) (ix1 n)))
  have eX : (entryVal m 0 (Proc.devRef .tc main_arg0) : FVec Ideal S128x1x4096 .f32) = argX m := entryVal_kept m 0 main_arg0 (by decide)
  have eB : (entryVal m 0 (Proc.devRef .tc main_arg4) : FVec Ideal S264x16x4096 .f32) = argB m := entryVal_kept m 0 main_arg4 (by decide)
  have eA : ∀ q r d, (entryVal m 0 (Proc.devRef .tc main_v0) : FVec Ideal S264x16x4096 .f32) (ix3 q r d) = argA m (ix3 q d r) := by
    intro q r d
    rw [show (entryVal m 0 (Proc.devRef .tc main_v0) : FVec Ideal S264x16x4096 .f32) = _ from entryVal_transposed m 0]
    pointwise
  unfold prod term
  rw [← ex, ← ew, ← eX, ← eB]
  simp only [← eA]
  rfl

/-- The output array below row 96: a row is the sum of four successive products. -/
theorem out_low (R : Fin 128) (h : R.val < 96) (j : Fin 4096) : (outc (adm m hok) (entryVal m) 0 (ix2 R j) : EReal)
    = ∑ q : Fin 4, prod m hx hw ⟨R.val * 4 + q.val, by omega⟩ j := by
  have hN := N_0
  unfold outc
  rw [dif_pos (show ((ix2 R j : S128x4096.Idx) 0).val < 96 from h)]
  have e : ∀ (q : ℕ) (hq : q < 4), (ys (blockAt (adm m hok) (entryVal m) 0 (⟨R.val / 8, by omega⟩ : Fin grid0.N)) (⟨4 * (R.val % 8) + q, by omega⟩ : Fin 32) (col j) : EReal)
      = prod m hx hw ⟨R.val * 4 + q, by omega⟩ j := fun q hq =>
    ys_value m hx hw hok _ _ _ (show R.val * 4 + q = 32 * (R.val / 8) + (4 * (R.val % 8) + q) by omega) j
  rw [Fin.sum_univ_four]
  unfold grp
  refine (congr_arg₂ (· + ·) (congr_arg₂ (· + ·) (e 0 (by omega)) (e 1 (by omega))) (congr_arg₂ (· + ·) (e 2 (by omega)) (e 3 (by omega)))).trans ?_
  exact (add_assoc _ _ _).symm

/-- The output array from row 96 on: one product a row. -/
theorem out_high (R : Fin 128) (h : ¬R.val < 96) (j : Fin 4096) : (outc (adm m hok) (entryVal m) 0 (ix2 R j) : EReal)
    = prod m hx hw ⟨384 + (R.val - 96), by omega⟩ j := by
  unfold outc
  rw [dif_neg (show ¬((ix2 R j : S128x4096.Idx) 0).val < 96 from h)]
  exact ys_value m hx hw hok _ _ _ (show 384 + (R.val - 96) = 32 * 12 + (R.val - 96) by omega) j

include hx hw in
open Cert.RefValue in
/-- The kernel's result is the reference's, of the same arguments. -/
theorem result_eq : (result m hok 0 : FVec Ideal S128x1x4096 .f32)
    = collected (products (takenX (argX m) (xids m)) (takenA (argA m) (wids m)) (takenB (argB m) (wids m))) := by
  funext i
  obtain ⟨R, z, j, rfl⟩ : ∃ (R : Fin 128) (z : Fin 1) (j : Fin 4096), i = ix3 R z j := ⟨i 0, i 1, i 2, eq_ix3 i⟩
  obtain rfl := Subsingleton.elim z 0
  have hk : (result m hok 0 : FVec Ideal S128x1x4096 .f32) (ix3 R (0 : Fin 1) j) = outc (adm m hok) (entryVal m) 0 (ix2 R j) := by
    unfold result
    pointwise
  rw [hk]
  by_cases h : R.val < 96
  · rw [collected_low _ R h j]
    exact (out_low m hx hw hok R h j).trans (Finset.sum_congr rfl fun q _ => (ref_product m hx hw _ j).symm)
  · rw [collected_high _ R h j]
    exact (out_high m hx hw hok R h j).trans (ref_product m hx hw _ j).symm

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_range
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

section Kernel

variable {F : FTy → Type} [FloatOps F] (m : (ℓ : Loc nD τ sig) → Buf (Elt F) ℓ)

/-- Index words in range make the tables admissible. -/
theorem tables_ok (hx : ∀ j : S416.Idx, BitVec.toNat (w := 32) (m (((0 : Dev nD).tc : Thread nD τ).loc main_arg1) j) < 128)
    (hw : ∀ j : S416.Idx, BitVec.toNat (w := 32) (m (((0 : Dev nD).tc : Thread nD τ).loc main_arg2) j) < 264) : Cert.Kernel.ok0 (Hand.tables m) :=
  Hand.ok_of_range _
    (fun j => (congrArg (BitVec.toNat (w := 32)) (congrFun (Hand.entryVal_kept m 0 main_arg1 (by decide)) j)).trans_lt (hx j))
    (fun j => (congrArg (BitVec.toNat (w := 32)) (congrFun (Hand.entryVal_kept m 0 main_arg2 (by decide)) j)).trans_lt (hw j))

end Kernel

/-- The frame of the kernel as printed. -/
theorem frame_Kernel : quiescent_Kernel := fun m g h =>
  have hr := Range.of_pre (h 0)
  (θ_run _ _ _).mono (fun _ h => ⟨fun c => (h.1 c).2, h.2⟩) (Hand.run m (tables_ok m hr.1 hr.2) g)

/-- The frame of the kernel over the extended reals. -/
theorem frame_KernelIdeal : quiescent_KernelIdeal := fun m g h => by
  have hr := Range.of_pre (h 0)
  rw [Same.same_run]
  exact (θ_run _ _ _).mono (fun _ h => ⟨fun c => (h.1 c).2, h.2⟩) (Hand.run m (tables_ok m hr.1 hr.2) g)

/-- The frame of the reference: it declares no semaphore. -/
theorem frame_ReferenceIdeal : quiescent_ReferenceIdeal := fun m g _ =>
  (θ_run _ _ _).mono (fun r h => ⟨fun c => (h c).2, sem_eq_zero_of_no_sems (by decide) r.2⟩) (Cert.ReferenceIdeal.Value.run m g)

/-- The kernel's result is the reference's. -/
theorem equal : algebraic_KernelIdeal_ReferenceIdeal := fun m g m' g' h hm => by
  have hr := Range.of_pre (h 0)
  have hok := tables_ok m hr.1 hr.2
  refine ⟨Hand.result m hok, ?_, ?_⟩
  · rw [Same.same_run]
    exact (θ_run _ _ _).mono (fun _ h c => h.1 c) (Hand.run m hok g)
  · refine (θ_run _ _ _).mono (fun _ h c => ⟨(h c).1.trans ?_, (h c).2⟩) (Cert.ReferenceIdeal.Value.run m' g')
    obtain rfl : c = 0 := Subsingleton.elim c 0
    obtain ⟨h0, h1, h2, h3, h4⟩ := hm 0
    refine (RefValue.res_eq m' 0).trans ?_
    rw [h0, h1, h2, h3, h4]
    exact (Cert.Value.result_eq m hr.1 hr.2 hok).symm

/-- All the claims. -/
theorem claim : Cert.Claim := ⟨Cert.Kernel.Gen.facts, Cert.KernelIdeal.Gen.facts, Cert.ReferenceIdeal.Gen.facts, Cert.Pre_in_range.Gen.facts,
  frame_Kernel, frame_KernelIdeal, frame_ReferenceIdeal, fun m g _ => frame_ReferenceIdeal m g trivial, trivial, equal⟩

end Cert.Proof

end
